-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lags_distinct [hPre_lags_distinct : Cert.Pre_lags_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_lags_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_lags_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_lags_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lags_distinct [hPre_lags_distinct : Cert.Pre_lags_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lags_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_lags_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_lags_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_lags_distinct [hKernelIdeal : Cert.KernelIdeal.Facts] [hPre_lags_distinct : Cert.Pre_lags_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lags_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_lags_distinct [hReferenceIdeal : Cert.ReferenceIdeal.Facts] [hPre_lags_distinct : Cert.Pre_lags_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lags_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_lags_distinct [hKernelIdeal : Cert.KernelIdeal.Facts] [hReferenceIdeal : Cert.ReferenceIdeal.Facts] [hPre_lags_distinct : Cert.Pre_lags_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lags_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_lags_distinct : Cert.Pre_lags_distinct.Facts),
    quiescent_Kernel (hKernel := hKernel)
    ∧ quiescent_KernelIdeal (hKernelIdeal := hKernelIdeal)
    ∧ quiescent_KernelIdeal_pre_lags_distinct (hKernelIdeal := hKernelIdeal) (hPre_lags_distinct := hPre_lags_distinct)
    ∧ quiescent_ReferenceIdeal (hReferenceIdeal := hReferenceIdeal)
    ∧ quiescent_ReferenceIdeal_pre_lags_distinct (hReferenceIdeal := hReferenceIdeal) (hPre_lags_distinct := hPre_lags_distinct)
    ∧ preserves_Kernel_KernelIdeal
    ∧ algebraic_KernelIdeal_ReferenceIdeal_pre_lags_distinct (hKernelIdeal := hKernelIdeal) (hReferenceIdeal := hReferenceIdeal) (hPre_lags_distinct := hPre_lags_distinct)
-- ==== Pre_lags_distinct.lean ====
abbrev S32x256x4096 : Shape := ⟨3, ![32, 256, 4096]⟩
abbrev S64x256x1 : Shape := ⟨3, ![64, 256, 1]⟩
abbrev S_ : Shape := ⟨0, ![]⟩
abbrev S32x64x256x4096 : Shape := ⟨4, ![32, 64, 256, 4096]⟩
abbrev S32x64x4096 : Shape := ⟨3, ![32, 64, 4096]⟩
abbrev S32x4096x256 : Shape := ⟨3, ![32, 4096, 256]⟩
abbrev S32x4096x12 : Shape := ⟨3, ![32, 4096, 12]⟩
abbrev S32x4096x11 : Shape := ⟨3, ![32, 4096, 11]⟩

class Facts : Prop where
  bcast_S_S64x256x1 : S_.BroadcastsInDim S64x256x1 (![] : Fin 0 → Fin S64x256x1.rank)
  slices_S32x256x4096_S32x64x4096_0_0_0 : S32x256x4096.Slices ![0, 0, 0] S32x64x4096
  slices_S32x256x4096_S32x64x4096_0_64_0 : S32x256x4096.Slices ![0, 64, 0] S32x64x4096
  slices_S32x256x4096_S32x64x4096_0_128_0 : S32x256x4096.Slices ![0, 128, 0] S32x64x4096
  slices_S32x256x4096_S32x64x4096_0_192_0 : S32x256x4096.Slices ![0, 192, 0] S32x64x4096
  sliceFits_S32x4096x256_S32x4096x12 : S32x4096x256.Slices (fun _ => 0) S32x4096x12
  bcast_S_S32x256x4096 : S_.BroadcastsInDim S32x256x4096 (![] : Fin 0 → Fin S32x256x4096.rank)
  slices_S32x4096x12_S32x4096x11_0_0_0 : S32x4096x12.Slices ![0, 0, 0] S32x4096x11
  slices_S32x4096x12_S32x4096x11_0_0_1 : S32x4096x12.Slices ![0, 0, 1] S32x4096x11
  gather_S32x256x4096_S64x256x1_S32x64x256x4096_03_1_n_n_1_2_3214096_wf : GatherDims.WF S32x256x4096 S64x256x1 S32x64x256x4096 [0, 3] [1] [] [1] [] 2 ![32, 1, 4096]
  dot_S32x64x256x4096_S32x64x4096_S32x4096x256_1_1_2_n_03_02_wf : DotDims.WF S32x64x256x4096 S32x64x4096 S32x4096x256 [1] [1] [2] [] [0, 3] [0, 2]

variable [Facts]

def gather_S32x256x4096_S64x256x1_S32x64x256x4096_03_1_n_n_1_2_3214096 : GatherDims S32x256x4096 S64x256x1 S32x64x256x4096 where
  offsetDims := [0, 3]
  collapsedSliceDims := [1]
  operandBatchingDims := []
  startIndicesBatchingDims := []
  startIndexMap := [1]
  indexVectorDim := 2
  sliceSizes := ![32, 1, 4096]
  wf := gather_S32x256x4096_S64x256x1_S32x64x256x4096_03_1_n_n_1_2_3214096_wf
def dot_S32x64x256x4096_S32x64x4096_S32x4096x256_1_1_2_n_03_02 : DotDims S32x64x256x4096 S32x64x4096 S32x4096x256 where
  lhsContracting := [1]
  rhsContracting := [1]
  lhsNonContracting := [2]
  rhsNonContracting := []
  lhsBatch := [0, 3]
  rhsBatch := [0, 2]
  wf := dot_S32x64x256x4096_S32x64x4096_S32x4096x256_1_1_2_n_03_02_wf
def fn_part2 {F : FTy → Type} [FloatOps F] (main_arg0 : FVec F S32x256x4096 .f32) (main_arg1 : FVec F S32x256x4096 .f32) (main_v31 : FVec F S32x4096x256 .f32) (main_v39 : FVec F S32x64x256x4096 .f32) : IVec S32x256x4096 1 × IVec S32x256x4096 1 × IVec S32x4096x11 1 :=
  let main_v40 : FVec F S32x64x4096 .f32 := (extractStridedSlice S32x64x4096 ![0, 192, 0] · slices_S32x256x4096_S32x64x4096_0_192_0) main_arg1
  let main_v41 : FVec F S32x4096x256 .f32 := (fun l r => Host.dotGeneral dot_S32x64x256x4096_S32x64x4096_S32x4096x256_1_1_2_n_03_02 none l r) main_v39 main_v40
  let main_v42 : FVec F S32x4096x256 .f32 := addf main_v31 main_v41
  let main_values : FVec F S32x4096x12 .f32 := (fun x => (Host.topK S32x4096x12 2 (FloatOps.cmpfTotal .gt) x sliceFits_S32x4096x256_S32x4096x12).1) main_v42
  let main_indices : IVec S32x4096x12 32 := (fun x => (Host.topK S32x4096x12 2 (FloatOps.cmpfTotal .gt) x sliceFits_S32x4096x256_S32x4096x12).2) main_v42
  let main_v43 : FVec F S32x256x4096 .f32 := Host.absf main_arg0
  let main_cst : FVec F S_ .f32 := constant S_ .f32 0x7F800000#32
  let main_v44 : FVec F S32x256x4096 .f32 := broadcastInDim S32x256x4096 ![] bcast_S_S32x256x4096 main_cst
  let main_v45 : IVec S32x256x4096 1 := cmpf .olt main_v43 main_v44
  let main_v46 : FVec F S32x256x4096 .f32 := Host.absf main_arg1
  let main_cst_7 : FVec F S_ .f32 := constant S_ .f32 0x7F800000#32
  let main_v47 : FVec F S32x256x4096 .f32 := broadcastInDim S32x256x4096 ![] bcast_S_S32x256x4096 main_cst_7
  let main_v48 : IVec S32x256x4096 1 := cmpf .olt main_v46 main_v47
  let main_v49 : FVec F S32x4096x11 .f32 := (extractStridedSlice S32x4096x11 ![0, 0, 0] · slices_S32x4096x12_S32x4096x11_0_0_0) main_values
  let main_v50 : FVec F S32x4096x11 .f32 := (extractStridedSlice S32x4096x11 ![0, 0, 1] · slices_S32x4096x12_S32x4096x11_0_0_1) main_values
  let main_v51 : IVec S32x4096x11 1 := cmpf .ogt main_v49 main_v50
  (main_v45, main_v48, main_v51)

def fn_part1 {F : FTy → Type} [FloatOps F] (main_arg0 : FVec F S32x256x4096 .f32) (main_arg1 : FVec F S32x256x4096 .f32) (main_v9 : FVec F S32x4096x256 .f32) (main_v19 : FVec F S32x4096x256 .f32) : IVec S32x256x4096 1 × IVec S32x256x4096 1 × IVec S32x4096x11 1 :=
  let main_v20 : FVec F S32x4096x256 .f32 := addf main_v9 main_v19
  let main_v21 : IVec S64x256x1 32 := iotaInDim S64x256x1 32 0
  let main_c_3 : IVec S_ 32 := constantI S_ 32 128#32
  let main_v22 : IVec S64x256x1 32 := broadcastInDim S64x256x1 ![] bcast_S_S64x256x1 main_c_3
  let main_v23 : IVec S64x256x1 32 := addi main_v22 main_v21
  let main_v24 : IVec S64x256x1 32 := iotaInDim S64x256x1 32 1
  let main_v25 : IVec S64x256x1 32 := addi main_v23 main_v24
  let main_c_4 : IVec S_ 32 := constantI S_ 32 255#32
  let main_v26 : IVec S64x256x1 32 := broadcastInDim S64x256x1 ![] bcast_S_S64x256x1 main_c_4
  let main_v27 : IVec S64x256x1 32 := andi main_v25 main_v26
  let main_v28 : FVec F S32x64x256x4096 .f32 := (fun x i => Host.gather gather_S32x256x4096_S64x256x1_S32x64x256x4096_03_1_n_n_1_2_3214096 x i) main_arg0 main_v27
  let main_v29 : FVec F S32x64x4096 .f32 := (extractStridedSlice S32x64x4096 ![0, 128, 0] · slices_S32x256x4096_S32x64x4096_0_128_0) main_arg1
  let main_v30 : FVec F S32x4096x256 .f32 := (fun l r => Host.dotGeneral dot_S32x64x256x4096_S32x64x4096_S32x4096x256_1_1_2_n_03_02 none l r) main_v28 main_v29
  let main_v31 : FVec F S32x4096x256 .f32 := addf main_v20 main_v30
  let main_v32 : IVec S64x256x1 32 := iotaInDim S64x256x1 32 0
  let main_c_5 : IVec S_ 32 := constantI S_ 32 192#32
  let main_v33 : IVec S64x256x1 32 := broadcastInDim S64x256x1 ![] bcast_S_S64x256x1 main_c_5
  let main_v34 : IVec S64x256x1 32 := addi main_v33 main_v32
  let main_v35 : IVec S64x256x1 32 := iotaInDim S64x256x1 32 1
  let main_v36 : IVec S64x256x1 32 := addi main_v34 main_v35
  let main_c_6 : IVec S_ 32 := constantI S_ 32 255#32
  let main_v37 : IVec S64x256x1 32 := broadcastInDim S64x256x1 ![] bcast_S_S64x256x1 main_c_6
  let main_v38 : IVec S64x256x1 32 := andi main_v36 main_v37
  let main_v39 : FVec F S32x64x256x4096 .f32 := (fun x i => Host.gather gather_S32x256x4096_S64x256x1_S32x64x256x4096_03_1_n_n_1_2_3214096 x i) main_arg0 main_v38
  fn_part2 (F := F) main_arg0 main_arg1 main_v31 main_v39

def fn {F : FTy → Type} [FloatOps F] (main_arg0 : FVec F S32x256x4096 .f32) (main_arg1 : FVec F S32x256x4096 .f32) (main_arg2 : FVec F S32x256x4096 .f32) : IVec S32x256x4096 1 × IVec S32x256x4096 1 × IVec S32x4096x11 1 :=
  let main_v0 : IVec S64x256x1 32 := iotaInDim S64x256x1 32 0
  let main_c : IVec S_ 32 := constantI S_ 32 0#32
  let main_v1 : IVec S64x256x1 32 := broadcastInDim S64x256x1 ![] bcast_S_S64x256x1 main_c
  let main_v2 : IVec S64x256x1 32 := addi main_v1 main_v0
  let main_v3 : IVec S64x256x1 32 := iotaInDim S64x256x1 32 1
  let main_v4 : IVec S64x256x1 32 := addi main_v2 main_v3
  let main_c_0 : IVec S_ 32 := constantI S_ 32 255#32
  let main_v5 : IVec S64x256x1 32 := broadcastInDim S64x256x1 ![] bcast_S_S64x256x1 main_c_0
  let main_v6 : IVec S64x256x1 32 := andi main_v4 main_v5
  let main_v7 : FVec F S32x64x256x4096 .f32 := (fun x i => Host.gather gather_S32x256x4096_S64x256x1_S32x64x256x4096_03_1_n_n_1_2_3214096 x i) main_arg0 main_v6
  let main_v8 : FVec F S32x64x4096 .f32 := (extractStridedSlice S32x64x4096 ![0, 0, 0] · slices_S32x256x4096_S32x64x4096_0_0_0) main_arg1
  let main_v9 : FVec F S32x4096x256 .f32 := (fun l r => Host.dotGeneral dot_S32x64x256x4096_S32x64x4096_S32x4096x256_1_1_2_n_03_02 none l r) main_v7 main_v8
  let main_v10 : IVec S64x256x1 32 := iotaInDim S64x256x1 32 0
  let main_c_1 : IVec S_ 32 := constantI S_ 32 64#32
  let main_v11 : IVec S64x256x1 32 := broadcastInDim S64x256x1 ![] bcast_S_S64x256x1 main_c_1
  let main_v12 : IVec S64x256x1 32 := addi main_v11 main_v10
  let main_v13 : IVec S64x256x1 32 := iotaInDim S64x256x1 32 1
  let main_v14 : IVec S64x256x1 32 := addi main_v12 main_v13
  let main_c_2 : IVec S_ 32 := constantI S_ 32 255#32
  let main_v15 : IVec S64x256x1 32 := broadcastInDim S64x256x1 ![] bcast_S_S64x256x1 main_c_2
  let main_v16 : IVec S64x256x1 32 := andi main_v14 main_v15
  let main_v17 : FVec F S32x64x256x4096 .f32 := (fun x i => Host.gather gather_S32x256x4096_S64x256x1_S32x64x256x4096_03_1_n_n_1_2_3214096 x i) main_arg0 main_v16
  let main_v18 : FVec F S32x64x4096 .f32 := (extractStridedSlice S32x64x4096 ![0, 64, 0] · slices_S32x256x4096_S32x64x4096_0_64_0) main_arg1
  let main_v19 : FVec F S32x4096x256 .f32 := (fun l r => Host.dotGeneral dot_S32x64x256x4096_S32x64x4096_S32x4096x256_1_1_2_n_03_02 none l r) main_v17 main_v18
  fn_part1 (F := F) main_arg0 main_arg1 main_v9 main_v19
-- ==== Kernel.lean ====
abbrev S32x256x4096 : Shape := ⟨3, ![32, 256, 4096]⟩
abbrev S136x256 : Shape := ⟨2, ![136, 256]⟩
abbrev S_ : Shape := ⟨0, ![]⟩
abbrev S272x256 : Shape := ⟨2, ![272, 256]⟩
abbrev S256x136 : Shape := ⟨2, ![256, 136]⟩
abbrev S136x1024 : Shape := ⟨2, ![136, 1024]⟩
abbrev S1x256x1024 : Shape := ⟨3, ![1, 256, 1024]⟩
abbrev S2x256x1024 : Shape := ⟨3, ![2, 256, 1024]⟩
abbrev S256x1024 : Shape := ⟨2, ![256, 1024]⟩
abbrev S272x1024 : Shape := ⟨2, ![272, 1024]⟩
abbrev S1x1024 : Shape := ⟨2, ![1, 1024]⟩
abbrev S1024 : Shape := ⟨1, ![1024]⟩

abbrev nBuf : Space → Nat
  | .hbm => 92
  | .vmem => 17
  | .smem => 0
  | _ => 0

abbrev bufTy : (tb : Table) → Fin (tcTables nBuf tb) → BufTy
  | .hbm, ⟨0, _⟩ => ⟨S32x256x4096, .f32⟩
  | .hbm, ⟨1, _⟩ => ⟨S32x256x4096, .f32⟩
  | .hbm, ⟨2, _⟩ => ⟨S32x256x4096, .f32⟩
  | .hbm, ⟨3, _⟩ => ⟨S136x256, .i32⟩
  | .hbm, ⟨4, _⟩ => ⟨S136x256, .i32⟩
  | .hbm, ⟨5, _⟩ => ⟨S136x256, .i32⟩
  | .hbm, ⟨6, _⟩ => ⟨S_, .i32⟩
  | .hbm, ⟨7, _⟩ => ⟨S136x256, .i32⟩
  | .hbm, ⟨8, _⟩ => ⟨S136x256, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S136x256, .f32⟩
  | .hbm, ⟨14, _⟩ => ⟨S136x256, .f32⟩
  | .hbm, ⟨15, _⟩ => ⟨S136x256, .f32⟩
  | .hbm, ⟨16, _⟩ => ⟨S_, .f32⟩
  | .hbm, ⟨17, _⟩ => ⟨S136x256, .f32⟩
  | .hbm, ⟨18, _⟩ => ⟨S136x256, .f32⟩
  | .hbm, ⟨19, _⟩ => ⟨S_, .f32⟩
  | .hbm, ⟨20, _⟩ => ⟨S136x256, .f32⟩
  | .hbm, ⟨21, _⟩ => ⟨S_, .i32⟩
  | .hbm, ⟨22, _⟩ => ⟨S136x256, .i32⟩
  | .hbm, ⟨23, _⟩ => ⟨S136x256, .i1⟩
  | .hbm, ⟨24, _⟩ => ⟨S136x256, .f32⟩
  | .hbm, ⟨25, _⟩ => ⟨S136x256, .f32⟩
  | .hbm, ⟨26, _⟩ => ⟨S_, .i32⟩
  | .hbm, ⟨27, _⟩ => ⟨S136x256, .i32⟩
  | .hbm, ⟨28, _⟩ => ⟨S136x256, .i1⟩
  | .hbm, ⟨29, _⟩ => ⟨S136x256, .f32⟩
  | .hbm, ⟨30, _⟩ => ⟨S136x256, .f32⟩
  | .hbm, ⟨31, _⟩ => ⟨S272x256, .f32⟩
  | .hbm, ⟨32, _⟩ => ⟨S256x136, .i32⟩
  | .hbm, ⟨33, _⟩ => ⟨S256x136, .i32⟩
  | .hbm, ⟨34, _⟩ => ⟨S256x136, .i32⟩
  | .hbm, ⟨35, _⟩ => ⟨S_, .i32⟩
  | .hbm, ⟨36, _⟩ => ⟨S256x136, .i32⟩
  | .hbm, ⟨37, _⟩ => ⟨S256x136, .i32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S256x136, .f32⟩
  | .hbm, ⟨43, _⟩ => ⟨S256x136, .f32⟩
  | .hbm, ⟨44, _⟩ => ⟨S256x136, .f32⟩
  | .hbm, ⟨45, _⟩ => ⟨S_, .f32⟩
  | .hbm, ⟨46, _⟩ => ⟨S256x136, .f32⟩
  | .hbm, ⟨47, _⟩ => ⟨S256x136, .f32⟩
  | .hbm, ⟨48, _⟩ => ⟨S_, .i32⟩
  | .hbm, ⟨49, _⟩ => ⟨S256x136, .i32⟩
  | .hbm, ⟨50, _⟩ => ⟨S256x136, .i1⟩
  | .hbm, ⟨51, _⟩ => ⟨S_, .i32⟩
  | .hbm, ⟨52, _⟩ => ⟨S256x136, .i32⟩
  | .hbm, ⟨53, _⟩ => ⟨S256x136, .i1⟩
  | .hbm, ⟨54, _⟩ => ⟨S256x136, .i1⟩
  | .hbm, ⟨55, _⟩ => ⟨S_, .f32⟩
  | .hbm, ⟨56, _⟩ => ⟨S256x136, .f32⟩
  | .hbm, ⟨57, _⟩ => ⟨S_, .f32⟩
  | .hbm, ⟨58, _⟩ => ⟨S256x136, .f32⟩
  | .hbm, ⟨59, _⟩ => ⟨S256x136, .f32⟩
  | .hbm, ⟨60, _⟩ => ⟨S_, .i32⟩
  | .hbm, ⟨61, _⟩ => ⟨S256x136, .i32⟩
  | .hbm, ⟨62, _⟩ => ⟨S256x136, .i1⟩
  | .hbm, ⟨63, _⟩ => ⟨S_, .f32⟩
  | .hbm, ⟨64, _⟩ => ⟨S256x136, .f32⟩
  | .hbm, ⟨65, _⟩ => ⟨S256x136, .f32⟩
  | .hbm, ⟨66, _⟩ => ⟨S256x136, .f32⟩
  | .hbm, ⟨67, _⟩ => ⟨S256x136, .f32⟩
  | .hbm, ⟨68, _⟩ => ⟨S_, .f32⟩
  | .hbm, ⟨69, _⟩ => ⟨S256x136, .f32⟩
  | .hbm, ⟨70, _⟩ => ⟨S256x136, .f32⟩
  | .hbm, ⟨71, _⟩ => ⟨S256x136, .f32⟩
  | .hbm, ⟨72, _⟩ => ⟨S256x136, .f32⟩
  | .hbm, ⟨73, _⟩ => ⟨S256x136, .f32⟩
  | .hbm, ⟨74, _⟩ => ⟨S_, .f32⟩
  | .hbm, ⟨75, _⟩ => ⟨S256x136, .f32⟩
  | .hbm, ⟨76, _⟩ => ⟨S256x136, .f32⟩
  | .hbm, ⟨77, _⟩ => ⟨S136x1024, .f32⟩
  | .hbm, ⟨78, _⟩ => ⟨S136x1024, .f32⟩
  | .hbm, ⟨79, _⟩ => ⟨S272x256, .bf16⟩
  | .hbm, ⟨80, _⟩ => ⟨S272x256, .f32⟩
  | .hbm, ⟨81, _⟩ => ⟨S272x256, .f32⟩
  | .hbm, ⟨82, _⟩ => ⟨S272x256, .bf16⟩
  | .hbm, ⟨83, _⟩ => ⟨S256x136, .bf16⟩
  | .hbm, ⟨84, _⟩ => ⟨S256x136, .f32⟩
  | .hbm, ⟨85, _⟩ => ⟨S256x136, .f32⟩
  | .hbm, ⟨86, _⟩ => ⟨S256x136, .bf16⟩
  | .hbm, ⟨87, _⟩ => ⟨S256x136, .bf16⟩
  | .hbm, ⟨88, _⟩ => ⟨S256x136, .f32⟩
  | .hbm, ⟨89, _⟩ => ⟨S256x136, .f32⟩
  | .hbm, ⟨90, _⟩ => ⟨S256x136, .bf16⟩
  | .hbm, ⟨91, _⟩ => ⟨S32x256x4096, .f32⟩
  | .local _ .vmem, ⟨0, _⟩ => ⟨S272x256, .bf16⟩
  | .local _ .vmem, ⟨1, _⟩ => ⟨S272x256, .bf16⟩
  | .local _ .vmem, ⟨2, _⟩ => ⟨S256x136, .bf16⟩
  | .local _ .vmem, ⟨3, _⟩ => ⟨S256x136, .bf16⟩
  | .local _ .vmem, ⟨4, _⟩ => ⟨S256x136, .bf16⟩
  | .local _ .vmem, ⟨5, _⟩ => ⟨S256x136, .bf16⟩
  | .local _ .vmem, ⟨6, _⟩ => ⟨S136x1024, .f32⟩
  | .local _ .vmem, ⟨7, _⟩ => ⟨S136x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S2x256x1024, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_c_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32 v0
  let v8 : Index := Scalar.indexCast v7
  let c0_8 : Index := 0#32
  let c0_9 : Index := 0#32
  ![v8.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v88 : Index := Scalar.indexCast v0
  let c0_45 : Index := 0#32
  let c0_46 : Index := 0#32
  ![v88.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c127_i32 : BitVec 32 := 127#32
  let v0 : BitVec 32 := Scalar.minsi arg0 c127_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.remsi v0 c4_i32_4
  let c0_i32_5 : BitVec 32 := 0#32
  let c0_i32_6 : BitVec 32 := 0#32
  ![v17.toNat, c0_i32_5.toNat, v18.toNat]

def cc0_transform_9 (i : grid0.Coords) : Fin 3 → Nat :=
  let arg0 : BitVec 32 := BitVec.ofNat 32 (i 0).val
  let c127_i32 : BitVec 32 := 127#32
  let v0 : BitVec 32 := Scalar.minsi arg0 c127_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.remsi v0 c4_i32_4
  let c0_i32_5 : BitVec 32 := 0#32
  let c0_i32_6 : BitVec 32 := 0#32
  ![v17.toNat, c0_i32_5.toNat, v18.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.remsi v1 c4_i32_6
  let c0_i32_7 : BitVec 32 := 0#32
  let c0_i32_8 : BitVec 32 := 0#32
  ![v18.toNat, c0_i32_7.toNat, v19.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.remsi v1 c4_i32_6
  let c0_i32_7 : BitVec 32 := 0#32
  let c0_i32_8 : BitVec 32 := 0#32
  ![v18.toNat, c0_i32_7.toNat, v19.toNat]

abbrev stage0_0 : Fin 1 → Memref sig .tc .vmem S272x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S272x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x136 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x136 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x136 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x136 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S136x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S136x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32x256x4096 : Shape := ⟨3, ![32, 256, 4096]⟩
abbrev S32x256x16x256 : Shape := ⟨4, ![32, 256, 16, 256]⟩
abbrev S32x16x256x256 : Shape := ⟨4, ![32, 16, 256, 256]⟩
abbrev S256x256 : Shape := ⟨2, ![256, 256]⟩
abbrev S_ : Shape := ⟨0, ![]⟩
abbrev S32x16x256x11 : Shape := ⟨4, ![32, 16, 256, 11]⟩
abbrev S32x16x11x256 : Shape := ⟨4, ![32, 16, 11, 256]⟩
abbrev S32x16x256 : Shape := ⟨3, ![32, 16, 256]⟩
abbrev S32x16x1x256 : Shape := ⟨4, ![32, 16, 1, 256]⟩
abbrev S32x16x512x256 : Shape := ⟨4, ![32, 16, 512, 256]⟩
abbrev S256 : Shape := ⟨1, ![256]⟩
abbrev S1x1x1x256 : Shape := ⟨4, ![1, 1, 1, 256]⟩
abbrev S32x16x11x256x1 : Shape := ⟨5, ![32, 16, 11, 256, 1]⟩
abbrev S1 : Shape := ⟨1, ![1]⟩
abbrev S1x1x1x1x1 : Shape := ⟨5, ![1, 1, 1, 1, 1]⟩
abbrev S32x1x4096 : Shape := ⟨3, ![32, 1, 4096]⟩

abbrev nBuf : Space → Nat
  | .hbm => 105
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S32x256x4096, .f32⟩
  | .hbm, ⟨2, _⟩ => ⟨S32x256x4096, .f32⟩
  | .hbm, ⟨3, _⟩ => ⟨S32x256x16x256, .f32⟩
  | .hbm, ⟨4, _⟩ => ⟨S32x16x256x256, .f32⟩
  | .hbm, ⟨5, _⟩ => ⟨S32x256x16x256, .f32⟩
  | .hbm, ⟨6, _⟩ => ⟨S32x16x256x256, .f32⟩
  | .hbm, ⟨7, _⟩ => ⟨S32x256x16x256, .f32⟩
  | .hbm, ⟨8, _⟩ => ⟨S32x16x256x256, .f32⟩
  | .hbm, ⟨9, _⟩ => ⟨S256x256, .i32⟩
  | .hbm, ⟨10, _⟩ => ⟨S256x256, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S256x256, .i32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S32x16x256x256, .f32⟩
  | .hbm, ⟨25, _⟩ => ⟨S32x16x256x256, .f32⟩
  | .hbm, ⟨26, _⟩ => ⟨S32x16x256x256, .f32⟩
  | .hbm, ⟨27, _⟩ => ⟨S32x16x256x256, .f32⟩
  | .hbm, ⟨28, _⟩ => ⟨S32x16x256x256, .f32⟩
  | .hbm, ⟨29, _⟩ => ⟨S32x16x256x256, .f32⟩
  | .hbm, ⟨30, _⟩ => ⟨S32x16x256x256, .f32⟩
  | .hbm, ⟨31, _⟩ => ⟨S32x16x256x256, .f32⟩
  | .hbm, ⟨32, _⟩ => ⟨S32x16x256x256, .f32⟩
  | .hbm, ⟨33, _⟩ => ⟨S32x16x256x256, .f32⟩
  | .hbm, ⟨34, _⟩ => ⟨S32x16x256x256, .f32⟩
  | .hbm, ⟨35, _⟩ => ⟨S32x16x256x256, .f32⟩
  | .hbm, ⟨36, _⟩ => ⟨S32x16x256x256, .f32⟩
  | .hbm, ⟨37, _⟩ => ⟨S32x16x256x256, .f32⟩
  | .hbm, ⟨38, _⟩ => ⟨S32x16x256x256, .f32⟩
  | .hbm, ⟨39, _⟩ => ⟨S32x16x256x256, .f32⟩
  | .hbm, ⟨40, _⟩ => ⟨S32x16x256x256, .f32⟩
  | .hbm, ⟨41, _⟩ => ⟨S32x16x256x256, .f32⟩
  | .hbm, ⟨42, _⟩ => ⟨S32x16x256x256, .f32⟩
  | .hbm, ⟨43, _⟩ => ⟨S32x16x256x256, .f32⟩
  | .hbm, ⟨44, _⟩ => ⟨S32x16x256x256, .f32⟩
  | .hbm, ⟨45, _⟩ => ⟨S_, .f32⟩
  | .hbm, ⟨46, _⟩ => ⟨S32x16x256x256, .f32⟩
  | .hbm, ⟨47, _⟩ => ⟨S32x16x256x256, .f32⟩
  | .hbm, ⟨48, _⟩ => ⟨S32x16x256x256, .f32⟩
  | .hbm, ⟨49, _⟩ => ⟨S32x16x256x11, .f32⟩
  | .hbm, ⟨50, _⟩ => ⟨S32x16x256x11, .i32⟩
  | .hbm, ⟨51, _⟩ => ⟨S32x16x11x256, .f32⟩
  | .hbm, ⟨52, _⟩ => ⟨S32x16x11x256, .i32⟩
  | .hbm, ⟨53, _⟩ => ⟨S_, .f32⟩
  | .hbm, ⟨54, _⟩ => ⟨S32x16x256, .f32⟩
  | .hbm, ⟨55, _⟩ => ⟨S_, .f32⟩
  | .hbm, ⟨56, _⟩ => ⟨S32x16x256, .f32⟩
  | .hbm, ⟨57, _⟩ => ⟨S32x16x256, .f32⟩
  | .hbm, ⟨58, _⟩ => ⟨S32x16x1x256, .f32⟩
  | .hbm, ⟨59, _⟩ => ⟨S32x16x11x256, .f32⟩
  | .hbm, ⟨60, _⟩ => ⟨S32x16x11x256, .f32⟩
  | .hbm, ⟨61, _⟩ => ⟨S32x16x11x256, .f32⟩
  | .hbm, ⟨62, _⟩ => ⟨S_, .f32⟩
  | .hbm, ⟨63, _⟩ => ⟨S32x16x256, .f32⟩
  | .hbm, ⟨64, _⟩ => ⟨S32x16x1x256, .f32⟩
  | .hbm, ⟨65, _⟩ => ⟨S32x16x11x256, .f32⟩
  | .hbm, ⟨66, _⟩ => ⟨S32x16x11x256, .f32⟩
  | .hbm, ⟨67, _⟩ => ⟨S32x16x512x256, .f32⟩
  | .hbm, ⟨68, _⟩ => ⟨S256, .i32⟩
  | .hbm, ⟨69, _⟩ => ⟨S1x1x1x256, .i32⟩
  | .hbm, ⟨70, _⟩ => ⟨S32x16x11x256, .i32⟩
  | .hbm, ⟨71, _⟩ => ⟨S32x16x11x256, .i32⟩
  | .hbm, ⟨72, _⟩ => ⟨S_, .i32⟩
  | .hbm, ⟨73, _⟩ => ⟨S32x16x11x256, .i32⟩
  | .hbm, ⟨74, _⟩ => ⟨S32x16x11x256, .i32⟩
  | .hbm, ⟨75, _⟩ => ⟨S_, .i32⟩
  | .hbm, ⟨76, _⟩ => ⟨S32x16x11x256, .i32⟩
  | .hbm, ⟨77, _⟩ => ⟨S32x16x11x256, .i1⟩
  | .hbm, ⟨78, _⟩ => ⟨S_, .i32⟩
  | .hbm, ⟨79, _⟩ => ⟨S32x16x11x256, .i32⟩
  | .hbm, ⟨80, _⟩ => ⟨S32x16x11x256, .i32⟩
  | .hbm, ⟨81, _⟩ => ⟨S32x16x11x256, .i32⟩
  | .hbm, ⟨82, _⟩ => ⟨S32x16x11x256x1, .i32⟩
  | .hbm, ⟨83, _⟩ => ⟨S1, .i32⟩
  | .hbm, ⟨84, _⟩ => ⟨S_, .i32⟩
  | .hbm, ⟨85, _⟩ => ⟨S32x16x11x256x1, .i32⟩
  | .hbm, ⟨86, _⟩ => ⟨S32x16x11x256x1, .i1⟩
  | .hbm, ⟨87, _⟩ => ⟨S1x1x1x1x1, .i32⟩
  | .hbm, ⟨88, _⟩ => ⟨S32x16x11x256x1, .i32⟩
  | .hbm, ⟨89, _⟩ => ⟨S32x16x11x256x1, .i1⟩
  | .hbm, ⟨90, _⟩ => ⟨S32x16x11x256x1, .i1⟩
  | .hbm, ⟨91, _⟩ => ⟨S_, .i1⟩
  | .hbm, ⟨92, _⟩ => ⟨S32x16x11x256, .i1⟩
  | .hbm, ⟨93, _⟩ => ⟨S32x16x11x256, .f32⟩
  | .hbm, ⟨94, _⟩ => ⟨S_, .f32⟩
  | .hbm, ⟨95, _⟩ => ⟨S32x16x11x256, .f32⟩
  | .hbm, ⟨96, _⟩ => ⟨S32x16x11x256, .f32⟩
  | .hbm, ⟨97, _⟩ => ⟨S32x16x11x256, .f32⟩
  | .hbm, ⟨98, _⟩ => ⟨S_, .f32⟩
  | .hbm, ⟨99, _⟩ => ⟨S32x16x256, .f32⟩
  | .hbm, ⟨100, _⟩ => ⟨S_, .f32⟩
  | .hbm, ⟨101, _⟩ => ⟨S32x16x256, .f32⟩
  | .hbm, ⟨102, _⟩ => ⟨S32x16x256, .f32⟩
  | .hbm, ⟨103, _⟩ => ⟨S32x1x4096, .f32⟩
  | .hbm, ⟨104, _⟩ => ⟨S32x256x4096, .f32⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_values : Ref sig .tc := ⟨.hbm, 49, rfl⟩
abbrev main_indices : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_c : Ref sig .tc := ⟨.hbm, 72, rfl⟩
abbrev main_v60 : Ref sig .tc := ⟨.hbm, 73, rfl⟩
abbrev main_v61 : Ref sig .tc := ⟨.hbm, 74, rfl⟩
abbrev main_call0_c : Ref sig .tc := ⟨.hbm, 75, rfl⟩
abbrev main_call0_v0 : Ref sig .tc := ⟨.hbm, 76, rfl⟩
abbrev main_call0_v1 : Ref sig .tc := ⟨.hbm, 77, rfl⟩
abbrev main_call0_c_0 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_c_1 : Ref sig .tc := ⟨.hbm, 83, rfl⟩
abbrev main_call0_c_2 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_c_3 : Ref sig .tc := ⟨.hbm, 91, rfl⟩
abbrev main_call0_v12 : Ref sig .tc := ⟨.hbm, 92, rfl⟩
abbrev main_call0_v13 : Ref sig .tc := ⟨.hbm, 93, rfl⟩
abbrev main_call0_cst : Ref sig .tc := ⟨.hbm, 94, rfl⟩
abbrev main_call0_v14 : Ref sig .tc := ⟨.hbm, 95, rfl⟩
abbrev main_v62 : Ref sig .tc := ⟨.hbm, 96, rfl⟩
abbrev main_v63 : Ref sig .tc := ⟨.hbm, 97, rfl⟩
abbrev main_cst_6 : Ref sig .tc := ⟨.hbm, 98, rfl⟩
abbrev main_v64 : Ref sig .tc := ⟨.hbm, 99, rfl⟩
abbrev main_cst_7 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== Proof.Body.lean ====
/- One grid step of the kernel, run once for every step: what it leaves in its output block and in its
   two-slot scratch, as functions of the blocks it was handed and of what the scratch held. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.ValueIdx
public import Idealize.ShloMosaic.Lib.VecWindow
public import Idealize.ShloMosaic.Lib.WholeRead

@[expose] public section

set_option maxRecDepth 16384

noncomputable section

namespace Cert.Mine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The correlation block that one step computes from the six tables, the two phase tables and the step's query and
    key blocks. -/
def corrOf (x0 x1 : Vec F S272x256 .bf16) (x2 x3 x4 x5 : Vec F S256x136 .bf16) (x6 x7 : Vec F S136x1024 .f32)
    (q k : Vec F S1x256x1024 .f32) : Vec F S1x256x1024 .f32 :=
  k0_pay20
    (k0_pay18 (k0_pay5 q x0 x1) (k0_pay6 x0) (k0_pay7 x1) (k0_pay8 k) (k0_pay9 k) (k0_pay10 k x0)
      (constant S272x1024 .f32 0x00000000#32) x6 x7)
    (k0_pay19 (k0_pay5 q x0 x1) (k0_pay6 x0) (k0_pay7 x1) (k0_pay8 k) (k0_pay9 k) (k0_pay10 k x0)
      (constant S272x1024 .f32 0x00000000#32) x6 x7 x2 x3) x4 x5

/-- The output block that one step computes from the correlation block of the step before and its values block. -/
def outOf (p v : Vec F S1x256x1024 .f32) : Vec F S1x256x1024 .f32 :=
  k0_pay1 (k0_pay4 p) (k0_pay21 (k0_pay3 v)) (k0_pay24 (k0_pay4 p) (k0_pay23 (k0_pay4 p)))
    (k0_pay25 (k0_pay4 p) (k0_pay22 (k0_pay4 p)))

/-- One slot of the scratch. -/
def slotAt (d : Vec F S2x256x1024 .f32) (off : Fin 3 → Nat) (h : ∀ a, off a + S1x256x1024.size a ≤ S2x256x1024.size a) :
    Vec F S1x256x1024 .f32 :=
  fun j => d ((Rect.unit (s := S2x256x1024) off S1x256x1024.size h).emb j)

set_option maxHeartbeats 4000000 in
/-- One step: the inputs are left as they were, the output block is computed from the scratch's other slot and the
    values block, and the scratch's own slot is overwritten by the step's correlation block. -/
theorem body_run (c : Dev nD) (i : grid0.Coords) (arg1 : Memref sig .tc .vmem S272x256 .bf16) (harg1 : arg1.IsWhole) (arg2 : Memref sig .tc .vmem S272x256 .bf16) (harg2 : arg2.IsWhole) (arg3 : Memref sig .tc .vmem S256x136 .bf16) (harg3 : arg3.IsWhole) (arg4 : Memref sig .tc .vmem S256x136 .bf16) (harg4 : arg4.IsWhole) (arg5 : Memref sig .tc .vmem S256x136 .bf16) (harg5 : arg5.IsWhole) (arg6 : Memref sig .tc .vmem S256x136 .bf16) (harg6 : arg6.IsWhole) (arg7 : Memref sig .tc .vmem S136x1024 .f32) (harg7 : arg7.IsWhole) (arg8 : Memref sig .tc .vmem S136x1024 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x256x1024 .f32) (harg12 : arg12.IsWhole) (arg13 : Memref sig .tc .vmem S2x256x1024 .f32) (harg13 : arg13.IsWhole)
    (x0 : Vec F S272x256 .bf16) (x1 : Vec F S272x256 .bf16) (x2 : Vec F S256x136 .bf16) (x3 : Vec F S256x136 .bf16) (x4 : Vec F S256x136 .bf16) (x5 : Vec F S256x136 .bf16) (x6 : Vec F S136x1024 .f32) (x7 : Vec F S136x1024 .f32) (x8 : Vec F S1x256x1024 .f32) (x9 : Vec F S1x256x1024 .f32) (x10 : Vec F S1x256x1024 .f32) (ds : Vec F S2x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare ds
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outOf (slotAt ds (k0_off1 i) (k0_off1_inb i)) x10)
                ∗ (∃ d', ⌜slotAt d' (k0_off2 i) (k0_off2_inb i) = corrOf x0 x1 x2 x3 x4 x5 x6 x7 x8 x9⌝ ∗ owns (c : Thread nD τ) arg13 fullShare d')) -∗ K ⟨⟩))
          ⊢ wp frame (wpE (defs₀ (F := F)) Variants.none c none) E (cc0__corr_topk_kernel i arg1 harg1 arg2 harg2 arg3 harg3 arg4 harg4 arg5 harg5 arg6 harg6 arg7 harg7 arg8 harg8 arg9 harg9 arg10 harg10 arg11 harg11 arg12 harg12 arg13 harg13) K := by
    intro E K
    simp only [cc0__corr_topk_kernel_eq_skeleton]; unfold cc0__corr_topk_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0
    sl_exec
    sl_step
    iapply Hk
    have g0 : (View.readAt (Elt F) arg1.view (Rect.unit (s := S272x256) ![0, 0] S272x256.size inb_S272x256_S272x256_0_0).toLoadRect (harg1.unread x0)) = x0 := (View.readAt_full _ _ _).trans hf0
    have g1 : (View.readAt (Elt F) arg2.view (Rect.unit (s := S272x256) ![0, 0] S272x256.size inb_S272x256_S272x256_0_0).toLoadRect (harg2.unread x1)) = x1 := (View.readAt_full _ _ _).trans hf1
    have g2 : (View.readAt (Elt F) arg3.view (Rect.unit (s := S256x136) ![0, 0] S256x136.size inb_S256x136_S256x136_0_0).toLoadRect (harg3.unread x2)) = x2 := (View.readAt_full _ _ _).trans hf2
    have g3 : (View.readAt (Elt F) arg4.view (Rect.unit (s := S256x136) ![0, 0] S256x136.size inb_S256x136_S256x136_0_0).toLoadRect (harg4.unread x3)) = x3 := (View.readAt_full _ _ _).trans hf3
    have g4 : (View.readAt (Elt F) arg5.view (Rect.unit (s := S256x136) ![0, 0] S256x136.size inb_S256x136_S256x136_0_0).toLoadRect (harg5.unread x4)) = x4 := (View.readAt_full _ _ _).trans hf4
    have g5 : (View.readAt (Elt F) arg6.view (Rect.unit (s := S256x136) ![0, 0] S256x136.size inb_S256x136_S256x136_0_0).toLoadRect (harg6.unread x5)) = x5 := (View.readAt_full _ _ _).trans hf5
    have g6 : (View.readAt (Elt F) arg7.view (Rect.unit (s := S136x1024) ![0, 0] S136x1024.size inb_S136x1024_S136x1024_0_0).toLoadRect (harg7.unread x6)) = x6 := (View.readAt_full _ _ _).trans hf6
    have g7 : (View.readAt (Elt F) arg8.view (Rect.unit (s := S136x1024) ![0, 0] S136x1024.size inb_S136x1024_S136x1024_0_0).toLoadRect (harg8.unread x7)) = x7 := (View.readAt_full _ _ _).trans hf7
    have g8 : (View.readAt (Elt F) arg9.view (Rect.unit (s := S1x256x1024) ![0, 0, 0] S1x256x1024.size inb_S1x256x1024_S1x256x1024_0_0_0).toLoadRect (harg9.unread x8)) = x8 := (View.readAt_full _ _ _).trans hf8
    have g9 : (View.readAt (Elt F) arg10.view (Rect.unit (s := S1x256x1024) ![0, 0, 0] S1x256x1024.size inb_S1x256x1024_S1x256x1024_0_0_0).toLoadRect (harg10.unread x9)) = x9 := (View.readAt_full _ _ _).trans hf9
    have g10 : (View.readAt (Elt F) arg11.view (Rect.unit (s := S1x256x1024) ![0, 0, 0] S1x256x1024.size inb_S1x256x1024_S1x256x1024_0_0_0).toLoadRect (harg11.unread x10)) = x10 := (View.readAt_full _ _ _).trans hf10
    have g13 : View.readAt (Elt F) arg13.view (Rect.unit (s := S2x256x1024) (k0_off1 i) S1x256x1024.size (k0_off1_inb i)).toLoadRect (harg13.unread ds) = slotAt ds (k0_off1 i) (k0_off1_inb i) :=
      funext fun x => harg13.readAt_unread ds _ x
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      refine (View.read_writes_full arg12.view f11 inb_S1x256x1024_S1x256x1024_0_0_0 _ []).trans ?_
      refine Eq.trans (b := outOf (View.readAt (Elt F) arg13.view (Rect.unit (s := S2x256x1024) (k0_off1 i) S1x256x1024.size (k0_off1_inb i)).toLoadRect (harg13.unread ds)) (View.readAt (Elt F) arg11.view (Rect.unit (s := S1x256x1024) ![0, 0, 0] S1x256x1024.size inb_S1x256x1024_S1x256x1024_0_0_0).toLoadRect (harg11.unread x10))) rfl ?_
      rw [g13, g10]
    iexists _; isplitr; swap
    · iexists _; isplitr; swap; · iexact HS0
      ipureintro; rfl
    ipureintro
    refine (funext fun x => View.read_writes_cons_emb arg13.view (harg13.unread ds) (Rect.unit (s := S2x256x1024) (k0_off2 i) S1x256x1024.size (k0_off2_inb i)) _ [] x).trans ?_
    refine Eq.trans (b := corrOf (View.readAt (Elt F) arg1.view (Rect.unit (s := S272x256) ![0, 0] S272x256.size inb_S272x256_S272x256_0_0).toLoadRect (harg1.unread x0)) (View.readAt (Elt F) arg2.view (Rect.unit (s := S272x256) ![0, 0] S272x256.size inb_S272x256_S272x256_0_0).toLoadRect (harg2.unread x1)) (View.readAt (Elt F) arg3.view (Rect.unit (s := S256x136) ![0, 0] S256x136.size inb_S256x136_S256x136_0_0).toLoadRect (harg3.unread x2)) (View.readAt (Elt F) arg4.view (Rect.unit (s := S256x136) ![0, 0] S256x136.size inb_S256x136_S256x136_0_0).toLoadRect (harg4.unread x3)) (View.readAt (Elt F) arg5.view (Rect.unit (s := S256x136) ![0, 0] S256x136.size inb_S256x136_S256x136_0_0).toLoadRect (harg5.unread x4)) (View.readAt (Elt F) arg6.view (Rect.unit (s := S256x136) ![0, 0] S256x136.size inb_S256x136_S256x136_0_0).toLoadRect (harg6.unread x5)) (View.readAt (Elt F) arg7.view (Rect.unit (s := S136x1024) ![0, 0] S136x1024.size inb_S136x1024_S136x1024_0_0).toLoadRect (harg7.unread x6)) (View.readAt (Elt F) arg8.view (Rect.unit (s := S136x1024) ![0, 0] S136x1024.size inb_S136x1024_S136x1024_0_0).toLoadRect (harg8.unread x7)) (View.readAt (Elt F) arg9.view (Rect.unit (s := S1x256x1024) ![0, 0, 0] S1x256x1024.size inb_S1x256x1024_S1x256x1024_0_0_0).toLoadRect (harg9.unread x8)) (View.readAt (Elt F) arg10.view (Rect.unit (s := S1x256x1024) ![0, 0, 0] S1x256x1024.size inb_S1x256x1024_S1x256x1024_0_0_0).toLoadRect (harg10.unread x9))) rfl ?_
    rw [g0, g1, g2, g3, g4, g5, g6, g7, g8, g9]

end Cert.Mine

end
-- ==== Proof.Run.lean ====
/- The kernel's grid run with its scratch tracked: the data of the run (what each block holds, and that the scratch's
   slot last written holds that step's correlation block), the obligation of one step, the run, and the frame. -/
module

public import proofs.«01_k».proof.Proof.Body
public import Idealize.ShloMosaic.Lib.Pipeline.DatRel
public import Idealize.ShloMosaic.Lib.Pipeline.ArrRel
public import Idealize.ShloMosaic.Lib.Claim

@[expose] public section

set_option maxRecDepth 16384

noncomputable section

namespace Cert.Mine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch slot that a step reads is the one that the step before wrote. -/
theorem off_prev : ∀ u t : Fin cfg0.N, u.val + 1 = t.val → k0_off1 (grid0.coords t) = k0_off2 (grid0.coords u) := by
  have h : ∀ n : Fin 128, k0_off1 (grid0.coords ⟨n.val + 1, Nat.succ_lt_succ n.isLt⟩) = k0_off2 (grid0.coords ⟨n.val, Nat.lt_succ_of_lt n.isLt⟩) := by
    decide +kernel
  intro u t e
  obtain ⟨u, hu⟩ := u; obtain ⟨t, ht⟩ := t
  simp only at e; subst e
  exact h ⟨u, by have : u + 1 < 129 := ht; omega⟩

/-- A slot is named by its offsets. -/
theorem slotAt_congr (d : Vec F S2x256x1024 .f32) {o o' : Fin S2x256x1024.rank → Nat} (e : o = o')
    (h : ∀ a, o a + S1x256x1024.size a ≤ S2x256x1024.size a) (h' : ∀ a, o' a + S1x256x1024.size a ≤ S2x256x1024.size a) :
    slotAt d o h = slotAt d o' h' := by subst e; rfl

/-- The correlation block that step `t` computes. -/
def corrAt (c : Dev nD) (t : Fin cfg0.N) : Vec F S1x256x1024 .f32 :=
  corrOf (iblk m c 0 t) (iblk m c 1 t) (iblk m c 2 t) (iblk m c 3 t) (iblk m c 4 t) (iblk m c 5 t) (iblk m c 6 t) (iblk m c 7 t) (iblk m c 8 t) (iblk m c 9 t)

/-- What is known of the scratch before step `t`: the slot written last holds the correlation block of the step before. -/
def scratchOk (c : Dev nD) (t : Nat) (d : Vec F S2x256x1024 .f32) : Prop :=
  ∀ u : Fin cfg0.N, u.val + 1 = t → slotAt d (k0_off2 (grid0.coords u)) (k0_off2_inb _) = corrAt m c u

/-- What is known of the output block that step `t` leaves: from the second step on, it is computed from the correlation
    block of the step before. -/
def outOk (c : Dev nD) (t : Fin cfg0.N) (X : Vec F S1x256x1024 .f32) : Prop :=
  ∀ u : Fin cfg0.N, u.val + 1 = t.val → X = outOf (corrAt m c u) (iblk m c 10 t)

/-- The scratch as a memref. -/
abbrev scM : Memref sig .tc .vmem S2x256x1024 .f32 := Memref.whole cc0_scratch0

/-- The invariant before step `t`. -/
def inv (c : Dev nD) (t : Nat) : sProp 𝕄 :=
  iprop((∃ d, ⌜scratchOk m c t d⌝ ∗ owns (c : Thread nD τ) scM fullShare d) ∗ (∃ r, prngReg c r))

/-- The plain invariant with the scratch named. -/
theorem plain_inv (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The run's data: every input block as it is fetched, the output's block left unnamed, the scratch tracked. -/
def data (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ t := inv m c t.val
  q _ := fullShare
  owed _ := 0

/-- The one window that is held to a relation: the output. -/
def isRel : Fin 12 → Bool := fun w => w.val == 11

/-- The relation of the output window. -/
def relOf (c : Dev nD) : (w : Fin cfg0.W) → Fin cfg0.N → ((cfg0.win w).block.Idx → Elt F (cfg0.win w).elt) → Prop :=
  fun w t => match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => fun _ => True
    | ⟨7, _⟩ => fun _ => True
    | ⟨8, _⟩ => fun _ => True
    | ⟨9, _⟩ => fun _ => True
    | ⟨10, _⟩ => fun _ => True
    | ⟨11, _⟩ => fun X => outOk m c t X

theorem data_A (c : Dev nD) (w : Fin cfg0.W) : (data m c).A w = V m c (Pipeline.arrRef spec0 w) := by
  dsimp only [data]

theorem data_after0 (c : Dev nD) (t : Fin cfg0.N) : (data m c).after 0 t = iblk m c 0 t := by dsimp only [data]
theorem data_after1 (c : Dev nD) (t : Fin cfg0.N) : (data m c).after 1 t = iblk m c 1 t := by dsimp only [data]
theorem data_after2 (c : Dev nD) (t : Fin cfg0.N) : (data m c).after 2 t = iblk m c 2 t := by dsimp only [data]
theorem data_after3 (c : Dev nD) (t : Fin cfg0.N) : (data m c).after 3 t = iblk m c 3 t := by dsimp only [data]
theorem data_after4 (c : Dev nD) (t : Fin cfg0.N) : (data m c).after 4 t = iblk m c 4 t := by dsimp only [data]
theorem data_after5 (c : Dev nD) (t : Fin cfg0.N) : (data m c).after 5 t = iblk m c 5 t := by dsimp only [data]
theorem data_after6 (c : Dev nD) (t : Fin cfg0.N) : (data m c).after 6 t = iblk m c 6 t := by dsimp only [data]
theorem data_after7 (c : Dev nD) (t : Fin cfg0.N) : (data m c).after 7 t = iblk m c 7 t := by dsimp only [data]
theorem data_after8 (c : Dev nD) (t : Fin cfg0.N) : (data m c).after 8 t = iblk m c 8 t := by dsimp only [data]
theorem data_after9 (c : Dev nD) (t : Fin cfg0.N) : (data m c).after 9 t = iblk m c 9 t := by dsimp only [data]
theorem data_after10 (c : Dev nD) (t : Fin cfg0.N) : (data m c).after 10 t = iblk m c 10 t := by dsimp only [data]
theorem data_before0 (c : Dev nD) (t : Fin cfg0.N) (d) : (data m c).before 0 t d = iblk m c 0 t :=
  before0_0_of m (data m c) (data_A m c 0) (data_after0 m c) t d
theorem data_before1 (c : Dev nD) (t : Fin cfg0.N) (d) : (data m c).before 1 t d = iblk m c 1 t :=
  before0_1_of m (data m c) (data_A m c 1) (data_after1 m c) t d
theorem data_before2 (c : Dev nD) (t : Fin cfg0.N) (d) : (data m c).before 2 t d = iblk m c 2 t :=
  before0_2_of m (data m c) (data_A m c 2) (data_after2 m c) t d
theorem data_before3 (c : Dev nD) (t : Fin cfg0.N) (d) : (data m c).before 3 t d = iblk m c 3 t :=
  before0_3_of m (data m c) (data_A m c 3) (data_after3 m c) t d
theorem data_before4 (c : Dev nD) (t : Fin cfg0.N) (d) : (data m c).before 4 t d = iblk m c 4 t :=
  before0_4_of m (data m c) (data_A m c 4) (data_after4 m c) t d
theorem data_before5 (c : Dev nD) (t : Fin cfg0.N) (d) : (data m c).before 5 t d = iblk m c 5 t :=
  before0_5_of m (data m c) (data_A m c 5) (data_after5 m c) t d
theorem data_before6 (c : Dev nD) (t : Fin cfg0.N) (d) : (data m c).before 6 t d = iblk m c 6 t :=
  before0_6_of m (data m c) (data_A m c 6) (data_after6 m c) t d
theorem data_before7 (c : Dev nD) (t : Fin cfg0.N) (d) : (data m c).before 7 t d = iblk m c 7 t :=
  before0_7_of m (data m c) (data_A m c 7) (data_after7 m c) t d
theorem data_before8 (c : Dev nD) (t : Fin cfg0.N) (d) : (data m c).before 8 t d = iblk m c 8 t :=
  before0_8_of m (data m c) (data_A m c 8) (data_after8 m c) t d
theorem data_before9 (c : Dev nD) (t : Fin cfg0.N) (d) : (data m c).before 9 t d = iblk m c 9 t :=
  before0_9_of m (data m c) (data_A m c 9) (data_after9 m c) t d
theorem data_before10 (c : Dev nD) (t : Fin cfg0.N) (d) : (data m c).before 10 t d = iblk m c 10 t :=
  before0_10_of m (data m c) (data_A m c 10) (data_after10 m c) t d

/-- Window 0's staging buffer at a point. -/
abbrev mst0 (t : Fin cfg0.N) : Memref sig .tc .vmem S272x256 .bf16 := win0_0.stage (cfg0.slots t 0)
/-- Window 1's staging buffer at a point. -/
abbrev mst1 (t : Fin cfg0.N) : Memref sig .tc .vmem S272x256 .bf16 := win0_1.stage (cfg0.slots t 1)
/-- Window 2's staging buffer at a point. -/
abbrev mst2 (t : Fin cfg0.N) : Memref sig .tc .vmem S256x136 .bf16 := win0_2.stage (cfg0.slots t 2)
/-- Window 3's staging buffer at a point. -/
abbrev mst3 (t : Fin cfg0.N) : Memref sig .tc .vmem S256x136 .bf16 := win0_3.stage (cfg0.slots t 3)
/-- Window 4's staging buffer at a point. -/
abbrev mst4 (t : Fin cfg0.N) : Memref sig .tc .vmem S256x136 .bf16 := win0_4.stage (cfg0.slots t 4)
/-- Window 5's staging buffer at a point. -/
abbrev mst5 (t : Fin cfg0.N) : Memref sig .tc .vmem S256x136 .bf16 := win0_5.stage (cfg0.slots t 5)
/-- Window 6's staging buffer at a point. -/
abbrev mst6 (t : Fin cfg0.N) : Memref sig .tc .vmem S136x1024 .f32 := win0_6.stage (cfg0.slots t 6)
/-- Window 7's staging buffer at a point. -/
abbrev mst7 (t : Fin cfg0.N) : Memref sig .tc .vmem S136x1024 .f32 := win0_7.stage (cfg0.slots t 7)
/-- Window 8's staging buffer at a point. -/
abbrev mst8 (t : Fin cfg0.N) : Memref sig .tc .vmem S1x256x1024 .f32 := win0_8.stage (cfg0.slots t 8)
/-- Window 9's staging buffer at a point. -/
abbrev mst9 (t : Fin cfg0.N) : Memref sig .tc .vmem S1x256x1024 .f32 := win0_9.stage (cfg0.slots t 9)
/-- Window 10's staging buffer at a point. -/
abbrev mst10 (t : Fin cfg0.N) : Memref sig .tc .vmem S1x256x1024 .f32 := win0_10.stage (cfg0.slots t 10)
/-- Window 11's staging buffer at a point. -/
abbrev mst11 (t : Fin cfg0.N) : Memref sig .tc .vmem S1x256x1024 .f32 := win0_11.stage (cfg0.slots t 11)
/-- What a step is called with. -/
def stepPre (c : Dev nD) (t : Fin cfg0.N) : sProp 𝕄 :=
  iprop((data m c).Φ t.castSucc ∗ (data m c).owesAt () t.castSucc
    ∗ (∃ d, owns (c : Thread nD τ) (mst0 t) fullShare ((data m c).before 0 t d))
    ∗ (∃ d, owns (c : Thread nD τ) (mst1 t) fullShare ((data m c).before 1 t d))
    ∗ (∃ d, owns (c : Thread nD τ) (mst2 t) fullShare ((data m c).before 2 t d))
    ∗ (∃ d, owns (c : Thread nD τ) (mst3 t) fullShare ((data m c).before 3 t d))
    ∗ (∃ d, owns (c : Thread nD τ) (mst4 t) fullShare ((data m c).before 4 t d))
    ∗ (∃ d, owns (c : Thread nD τ) (mst5 t) fullShare ((data m c).before 5 t d))
    ∗ (∃ d, owns (c : Thread nD τ) (mst6 t) fullShare ((data m c).before 6 t d))
    ∗ (∃ d, owns (c : Thread nD τ) (mst7 t) fullShare ((data m c).before 7 t d))
    ∗ (∃ d, owns (c : Thread nD τ) (mst8 t) fullShare ((data m c).before 8 t d))
    ∗ (∃ d, owns (c : Thread nD τ) (mst9 t) fullShare ((data m c).before 9 t d))
    ∗ (∃ d, owns (c : Thread nD τ) (mst10 t) fullShare ((data m c).before 10 t d))
    ∗ (∃ Y, ⌜((data m c).toRRel isRel (relOf m c)).Finds 11 t Y⌝ ∗ owns (c : Thread nD τ) (mst11 t) fullShare Y))

/-- What a step returns. -/
def stepPost (c : Dev nD) (t : Fin cfg0.N) : sProp 𝕄 :=
  iprop((data m c).Φ t.succ ∗ (data m c).owesAt () t.succ
    ∗ owns (c : Thread nD τ) (mst0 t) fullShare ((data m c).after 0 t)
    ∗ owns (c : Thread nD τ) (mst1 t) fullShare ((data m c).after 1 t)
    ∗ owns (c : Thread nD τ) (mst2 t) fullShare ((data m c).after 2 t)
    ∗ owns (c : Thread nD τ) (mst3 t) fullShare ((data m c).after 3 t)
    ∗ owns (c : Thread nD τ) (mst4 t) fullShare ((data m c).after 4 t)
    ∗ owns (c : Thread nD τ) (mst5 t) fullShare ((data m c).after 5 t)
    ∗ owns (c : Thread nD τ) (mst6 t) fullShare ((data m c).after 6 t)
    ∗ owns (c : Thread nD τ) (mst7 t) fullShare ((data m c).after 7 t)
    ∗ owns (c : Thread nD τ) (mst8 t) fullShare ((data m c).after 8 t)
    ∗ owns (c : Thread nD τ) (mst9 t) fullShare ((data m c).after 9 t)
    ∗ owns (c : Thread nD τ) (mst10 t) fullShare ((data m c).after 10 t)
    ∗ (∃ X, ⌜outOk m c t X⌝ ∗ owns (c : Thread nD τ) (mst11 t) fullShare X))

set_option maxHeartbeats 1200000 in
/-- One step, at any point of the grid. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [data_before0, data_before1, data_before2, data_before3, data_before4, data_before5, data_before6, data_before7, data_before8, data_before9, data_before10]
  rw [show (data m c).owesAt () t.succ = (data m c).owesAt () t.castSucc from rfl, data_after0, data_after1, data_after2, data_after3, data_after4, data_after5, data_after6, data_after7, data_after8, data_after9, data_after10]
  rw [show (data m c).Φ t.castSucc = inv m c t.val from rfl, show (data m c).Φ t.succ = inv m c (t.val + 1) from rfl]
  unfold inv
  iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %hd11, H11⟩⟩
  iapply ((body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ds) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  iintro ⟨H0, H1, H2, H3, H4, H5, H6, H7, H8, H9, H10, H11, ⟨%d', %hd', HS0⟩⟩
  isplitl [HS0 Hg]
  · isplitl [HS0]
    · iexists d'; isplitr
      · ipureintro
        intro u hu
        obtain rfl : u = t := Fin.ext (by omega)
        exact hd'
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; isplitr; swap; · iexact H11
  ipureintro
  intro u hu
  have e : slotAt ds (k0_off1 (grid0.coords t)) (k0_off1_inb _) = corrAt m c u := by
    rw [← hds u hu]
    exact slotAt_congr ds (off_prev u t hu) _ _
  rw [e]

/-- The body table's row at a point is the body there. -/
theorem body_row (t : Fin cfg0.N) :
    defs₀ (F := F) .tc cfg0.body (cfg0.bodyArgs t (cfg0.slots t)) = bodyAt0 t := by
  unfold defs₀; rw [Defs.onTc_tc]

/-- The obligation of every step. -/
theorem step_obligation (c : Dev nD) : BodyObligationRel (data (F := F) m c) (defs₀ (F := F)) Variants.none () Set.univ isRel (relOf m c) := fun t => by
  rw [bigSep_W0, bigSep_W0, body_row]
  exact triple_restated (step_sound m c t) rfl .rfl fun _ => .rfl

/-- The run's relational data. -/
abbrev rdata (c : Dev nD) := (data (F := F) m c).toRRel isRel (relOf m c)

set_option backward.isDefEq.respectTransparency.types false in
/-- The run: every array ends at contents that the relational data allow, and every counter at zero. -/
theorem run_all : θ_run defs (onTc (τ := τ) (main (F := F))) (s₀ m ρ) (fun r => (Pipeline.RDat.FramePost (cfgs 0) (fun c => rdata m c) (V m)) r ∧ r.2.sem = fun _ => 0) :=
  Pipeline.RDat.θ_run_frame_track (Q' := _) cfgs (0 : Fin 1) launch0 defs₀ Variants.none (fun c => rdata m c) m ρ main
    (hbody := fun c => (step_obligation m c).toRRel) (hshare := fun c => (data m c).share_full fun _ => rfl)
    (howed := fun _ _ => rfl) (V := V m) (hmain := hmain m Variants.none) (hA := data_A m)
    (hin := fun c => by
      show Pipeline.ΦA spec0 c ⊢ inv m c 0
      rw [plain_inv]; unfold inv
      iintro ⟨⟨%d, HS⟩, Hg⟩
      isplitl [HS]
      · iexists d; isplitr
        · ipureintro; intro u hu; omega
        iexact HS
      iexact Hg)
    (hout := fun c => by
      show inv m c 129 ⊢ Pipeline.ΦA spec0 c
      rw [plain_inv]; unfold inv
      iintro ⟨⟨%d, %hd, HS⟩, Hg⟩
      isplitl [HS]
      · iexists d; iexact HS
      iexact Hg)

/-- After a run of any relational data over the arrays at entry, the three argument arrays are unchanged. -/
theorem args_of_post (rdat : (c : Dev nD) → Pipeline.RDat τ (Elt F) Unit ℕ (UR sig nD τ) ℕ (cfgs 0) c)
    (hA : ∀ c w, (rdat c).A w = V m c (Pipeline.arrRef spec0 w)) (r : PUnit × MemSt nD τ sig (Elt F))
    (h : Pipeline.RDat.FramePost (cfgs 0) rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 8 rfl).trans ((hA c 8).trans (V_main_arg0 m c)),
    (h.arr_in c 9 rfl).trans ((hA c 9).trans (V_main_arg1 m c)),
    (h.arr_in c 10 rfl).trans ((hA c 10).trans (V_main_arg2 m c))⟩

/-- The frame: the three argument arrays end as they began, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_of_post m (fun c => rdata m c) (data_A m) r h.1 c, h.2⟩) (run_all m ρ)

section
variable {nD : Nat} {τ : Topo} {sig : RefSig} {Val : EltTy → Type} {Λ₀ : Idealize.SL.Sem.Labels} [∀ e, Nonempty (Val e)]

/-- After a run under relational data, the elements under the block of a point that writes back are those of some
    contents that the relation allows at that point, when no other point's block meets it. -/
theorem emb_of_post {cfg₁ : Cfg sig Λ₀} {U' : Type} [URA U'] {rdat : (c : Dev nD) → Pipeline.RDat τ Val Unit ℕ U' ℕ cfg₁ c}
    {V : (c : Dev nD) → (b : Ref sig .tc) → Buf Val ((c.tc : Thread nD τ).loc b)} {r : PUnit × MemSt nD τ sig Val}
    (h : Pipeline.RDat.FramePost cfg₁ rdat V r) (c : Dev nD) (w : Fin cfg₁.W)
    (hdisj : ∀ t t' : Fin cfg₁.N, (cfg₁.win w).flush t = true → (cfg₁.win w).flush t' = true →
      (cfg₁.win w).index t = (cfg₁.win w).index t' → t = t')
    (t : Fin cfg₁.N) (hf : (cfg₁.win w).flush t = true) :
    ∃ X, (rdat c).Leaves w t X ∧ ∀ y : ((cfg₁.win w).xblock (cfg₁.grid.coords t)).Idx,
      r.2.mem ((cfg₁.spec w).arr.view.loc (c.tc : Thread nD τ)) (((cfg₁.win w).blk t).view.emb y)
        = _root_.cast (congrArg Val ((cfg₁.win w).blk t).view.elt_eq.symm) (X ((cfg₁.win w).xinj (cfg₁.grid.coords t) y)) := by
  obtain ⟨after, hL, hA⟩ := h.exists_exact c
  refine ⟨after w t, hL w t hf, fun y => ?_⟩
  rw [hA w]
  exact ((rdat c).withAfter after).arrAt_emb_eq_flushed w (Pipeline.Window.hdisj_of_index_inj _ hdisj) t hf y

end

end Cert.Mine

end
-- ==== Proof.Math.lean ====
/- The mathematics of the circular correlation on 256 time steps: the cosines that a full period of frequencies sums
   to, the half spectrum weighted twice, and the two ways (the kernel's and the plain one) in which the products of
   the two spectra come back to one sum over the time steps. Real numbers only. -/
module

public import Idealize.ShloMosaic.Lib.Pointwise

@[expose] public section

noncomputable section

namespace Cert.Mine

open Real Finset

/-- The cosine of `n` 256ths of a turn. -/
def cosT (n : ℤ) : ℝ := Real.cos (2 * π * n / 256)

/-- The sine of `n` 256ths of a turn. -/
def sinT (n : ℤ) : ℝ := Real.sin (2 * π * n / 256)

theorem cosT_add (a b : ℤ) : cosT (a + b) = cosT a * cosT b - sinT a * sinT b := by
  unfold cosT sinT; rw [← Real.cos_add]; congr 1; push_cast; ring

theorem sinT_add (a b : ℤ) : sinT (a + b) = sinT a * cosT b + cosT a * sinT b := by
  unfold cosT sinT; rw [← Real.sin_add]; congr 1; push_cast; ring

theorem cosT_neg (a : ℤ) : cosT (-a) = cosT a := by
  unfold cosT; rw [← Real.cos_neg]; congr 1; push_cast; ring

theorem sinT_neg (a : ℤ) : sinT (-a) = - sinT a := by
  unfold sinT; rw [← Real.sin_neg]; congr 1; push_cast; ring

theorem cosT_turns (a k : ℤ) : cosT (a + 256 * k) = cosT a := by
  unfold cosT; rw [← Real.cos_add_int_mul_two_pi (2 * π * a / 256) k]; congr 1; push_cast; ring

theorem sinT_turns (a k : ℤ) : sinT (a + 256 * k) = sinT a := by
  unfold sinT; rw [← Real.sin_add_int_mul_two_pi (2 * π * a / 256) k]; congr 1; push_cast; ring

/-- Whole turns may be taken off before the cosine. -/
theorem cosT_mod (n : ℕ) : cosT ((n % 256 : ℕ) : ℤ) = cosT n := by
  conv_rhs => rw [← Nat.mod_add_div n 256]
  push_cast
  rw [cosT_turns]

/-- Whole turns may be taken off before the sine. -/
theorem sinT_mod (n : ℕ) : sinT ((n % 256 : ℕ) : ℤ) = sinT n := by
  conv_rhs => rw [← Nat.mod_add_div n 256]
  push_cast
  rw [sinT_turns]

/-- The cosines of a full period of frequencies sum to the period at whole turns and to nothing elsewhere. -/
theorem sum_cosT (n : ℤ) : ∑ f ∈ range 256, cosT (f * n) = if (256 : ℤ) ∣ n then 256 else 0 := by
  split_ifs with h
  · obtain ⟨k, rfl⟩ := h
    have : ∀ f ∈ range 256, cosT ((f : ℤ) * (256 * k)) = 1 := by
      intro f _
      have e : (f : ℤ) * (256 * k) = 0 + 256 * (f * k) := by ring
      rw [e, cosT_turns]; simp [cosT]
    rw [sum_congr rfl this]; simp
  · set x : ℝ := 2 * π * n / 256 with hx
    have hs : Real.sin (x / 2) ≠ 0 := by
      intro h0
      obtain ⟨m, hm⟩ := Real.sin_eq_zero_iff.mp h0
      apply h
      refine ⟨m, ?_⟩
      have hp : (π : ℝ) ≠ 0 := Real.pi_ne_zero
      have : (n : ℝ) = 256 * m := by
        have h1 : (m : ℝ) * π = (n / 256) * π := by rw [hm, hx]; ring
        have h2 := mul_right_cancel₀ hp h1
        rw [h2]; ring
      exact_mod_cast this
    have tele : ∀ N : ℕ, 2 * Real.sin (x / 2) * ∑ f ∈ range N, cosT (f * n)
        = Real.sin (N * x - x / 2) + Real.sin (x / 2) := by
      intro N
      induction N with
      | zero => simp
      | succ N ih =>
        rw [sum_range_succ, mul_add, ih]
        have e1 : cosT ((N : ℤ) * n) = Real.cos (N * x) := by
          unfold cosT; congr 1; rw [hx]; push_cast; ring
        have e2 : ((N + 1 : ℕ) : ℝ) * x - x / 2 = N * x + x / 2 := by push_cast; ring
        rw [e1, e2, Real.sin_add, Real.sin_sub]; ring
    have h256 := tele 256
    have e3 : Real.sin ((256 : ℕ) * x - x / 2) = - Real.sin (x / 2) := by
      have : ((256 : ℕ) : ℝ) * x - x / 2 = -(x / 2) + n * (2 * π) := by rw [hx]; push_cast; ring
      rw [this, Real.sin_add_int_mul_two_pi, Real.sin_neg]
    rw [e3, neg_add_cancel] at h256
    rcases mul_eq_zero.mp h256 with h1 | h1
    · exact absurd (by simpa using h1) hs
    · exact h1

/-- The weight of a frequency in the half spectrum: one at its two ends, two between, none past it. -/
def wt (f : ℕ) : ℝ := if f ≤ 128 then (if f = 0 ∨ f = 128 then 1 else 2) else 0

/-- A function of the frequencies that is the same at `f` and at `256 - f`, summed over the half spectrum with its
    weights, is its sum over the full one. -/
theorem sum_half (g : ℕ → ℝ) (hg : ∀ f, f ≤ 256 → g (256 - f) = g f) :
    ∑ f ∈ range 136, wt f * g f = ∑ f ∈ range 256, g f := by
  have h1 : ∑ f ∈ range 136, wt f * g f = ∑ f ∈ range 128, g f + ∑ f ∈ range 128, g (f + 1) := by
    have a : ∑ f ∈ range 136, wt f * g f = ∑ f ∈ range 129, wt f * g f := by
      symm
      apply sum_subset
      · intro i hi; simp only [mem_range] at *; omega
      · intro i hi hn
        simp only [mem_range] at *
        have : wt i = 0 := by unfold wt; rw [if_neg (by omega)]
        rw [this, zero_mul]
    rw [a]
    have b : ∀ f ∈ range 129, wt f * g f = (if f < 128 then g f else 0) + (if 0 < f then g f else 0) := by
      intro f hf
      have hf' := mem_range.mp hf
      unfold wt
      rw [if_pos (by omega)]
      by_cases h0 : f = 0
      · subst h0; simp
      · by_cases h1 : f = 128
        · subst h1; simp
        · rw [if_neg (by omega), if_pos (by omega), if_pos (by omega)]; ring
    rw [sum_congr rfl b, sum_add_distrib]
    congr 1
    · rw [sum_range_succ]
      rw [if_neg (by omega), add_zero]
      exact sum_congr rfl fun f hf => if_pos (mem_range.mp hf)
    · rw [sum_range_succ']
      rw [if_neg (by omega), add_zero]
      exact sum_congr rfl fun f hf => if_pos (Nat.succ_pos f)
  rw [h1]
  have h2 : ∑ f ∈ range 256, g f = ∑ f ∈ range 128, g f + ∑ f ∈ range 128, g (128 + f) :=
    sum_range_add g 128 128
  rw [h2]
  congr 1
  rw [← sum_range_reflect (fun f => g (128 + f)) 128]
  refine sum_congr rfl fun f hf => ?_
  have hf' := mem_range.mp hf
  rw [← hg (f + 1) (by omega)]
  congr 1
  omega

/-- The circular correlation of two sequences of 256 numbers at a lag. -/
def corr (q k : Fin 256 → ℝ) (l : Fin 256) : ℝ := ∑ u : Fin 256, q (u + l) * k u

/-- One frequency of the product of the two spectra, turned by `n` time steps. -/
def freq (q k : Fin 256 → ℝ) (n f : ℤ) : ℝ :=
  ∑ t : Fin 256, ∑ u : Fin 256, q t * k u * cosT (f * (n - t.val + u.val))

theorem freq_reflect (q k : Fin 256 → ℝ) (n : ℤ) (f : ℕ) (hf : f ≤ 256) :
    freq q k n ((256 - f : ℕ) : ℤ) = freq q k n f := by
  unfold freq
  refine sum_congr rfl fun t _ => sum_congr rfl fun u _ => ?_
  congr 1
  rw [Nat.cast_sub hf, ← cosT_neg]
  have : -((((256 : ℕ) : ℤ) - f) * (n - t.val + u.val)) = f * (n - t.val + u.val) + 256 * (-(n - t.val + u.val)) := by
    push_cast; ring
  rw [this, cosT_turns]

/-- All frequencies together give the correlation at the lag `l` that `n` is up to whole turns. -/
theorem sum_freq (q k : Fin 256 → ℝ) (n : ℤ) (l : Fin 256) (hl : (256 : ℤ) ∣ n - l.val) :
    ∑ f ∈ range 256, freq q k n f = 256 * corr q k l := by
  unfold freq corr
  rw [sum_comm]
  simp only [sum_comm (s := range 256)]
  rw [sum_comm, mul_sum]
  refine sum_congr rfl fun u _ => ?_
  have : ∀ t : Fin 256, ∑ f ∈ range 256, q t * k u * cosT ((f : ℤ) * (n - t.val + u.val))
      = if t = u + l then 256 * (q (u + l) * k u) else 0 := by
    intro t
    rw [← mul_sum, sum_cosT]
    have hiff : ((256 : ℤ) ∣ n - t.val + u.val) ↔ t = u + l := by
      obtain ⟨c, hc⟩ := hl
      have ht := t.isLt
      have hu := u.isLt
      have hll := l.isLt
      rw [Fin.ext_iff, Fin.val_add]
      constructor
      · rintro ⟨e, he⟩
        omega
      · intro h
        have : (256 : ℤ) ∣ ((u.val + l.val : ℕ) : ℤ) - ((u.val + l.val) % 256 : ℕ) := by omega
        rw [h]; omega
    by_cases h : t = u + l
    · rw [if_pos (hiff.mpr h), if_pos h, h]; ring
    · rw [if_neg (fun h' => h (hiff.mp h')), if_neg h, mul_zero]
  rw [sum_congr rfl fun t _ => this t]
  simp

/-- A spectrum's cosine part at one frequency. -/
def cPart (q : Fin 256 → ℝ) (f : ℕ) : ℝ := ∑ t : Fin 256, cosT ((f * t.val : ℕ) : ℤ) * q t

/-- A spectrum's sine part at one frequency. -/
def sPart (q : Fin 256 → ℝ) (f : ℕ) : ℝ := ∑ t : Fin 256, sinT ((f * t.val : ℕ) : ℤ) * q t

theorem freq_parts (q k : Fin 256 → ℝ) (n : ℤ) (f : ℕ) :
    freq q k n f = cosT (f * n) * (cPart q f * cPart k f + sPart q f * sPart k f)
      + sinT (f * n) * (sPart q f * cPart k f - cPart q f * sPart k f) := by
  have key : ∀ t u : Fin 256, q t * k u * cosT (f * (n - t.val + u.val))
      = cosT (f * n) * ((cosT ((f * t.val : ℕ) : ℤ) * q t) * (cosT ((f * u.val : ℕ) : ℤ) * k u))
        + cosT (f * n) * ((sinT ((f * t.val : ℕ) : ℤ) * q t) * (sinT ((f * u.val : ℕ) : ℤ) * k u))
        + (sinT (f * n) * ((sinT ((f * t.val : ℕ) : ℤ) * q t) * (cosT ((f * u.val : ℕ) : ℤ) * k u))
        - sinT (f * n) * ((cosT ((f * t.val : ℕ) : ℤ) * q t) * (sinT ((f * u.val : ℕ) : ℤ) * k u))) := by
    intro t u
    have e : (f : ℤ) * (n - t.val + u.val) = f * n + (-((f * t.val : ℕ) : ℤ) + ((f * u.val : ℕ) : ℤ)) := by
      push_cast; ring
    rw [e, cosT_add, cosT_add, sinT_add, cosT_neg, sinT_neg]
    ring
  unfold freq
  simp only [key, sum_add_distrib, sum_sub_distrib, ← mul_sum]
  unfold cPart sPart
  simp only [← sum_mul]
  ring

/-- The kernel's correlation at row `r` of a channel turned by `d`: the half spectrum, weighted and turned. -/
theorem kernel_corr (q k : Fin 256 → ℝ) (r d : ℕ) (l : Fin 256) (hl : (256 : ℤ) ∣ (r : ℤ) - d - l.val) (hd : d < 256) :
    (∑ f ∈ range 136, cosT ((r * f : ℕ) : ℤ) * wt f / 256 *
        ((cPart q f * cPart k f + sPart q f * sPart k f) * cosT ((f * d : ℕ) : ℤ)
          + (cPart q f * sPart k f - sPart q f * cPart k f) * sinT ((f * d : ℕ) : ℤ)))
      + (∑ f ∈ range 136, -sinT ((r * f : ℕ) : ℤ) * wt f / 256 *
        ((cPart q f * sPart k f - sPart q f * cPart k f) * cosT ((f * d : ℕ) : ℤ)
          - (cPart q f * cPart k f + sPart q f * sPart k f) * sinT ((f * d : ℕ) : ℤ)))
      = corr q k l := by
  rw [← sum_add_distrib]
  have h : ∀ f ∈ range 136, cosT ((r * f : ℕ) : ℤ) * wt f / 256 *
        ((cPart q f * cPart k f + sPart q f * sPart k f) * cosT ((f * d : ℕ) : ℤ)
          + (cPart q f * sPart k f - sPart q f * cPart k f) * sinT ((f * d : ℕ) : ℤ))
      + -sinT ((r * f : ℕ) : ℤ) * wt f / 256 *
        ((cPart q f * sPart k f - sPart q f * cPart k f) * cosT ((f * d : ℕ) : ℤ)
          - (cPart q f * cPart k f + sPart q f * sPart k f) * sinT ((f * d : ℕ) : ℤ))
      = 1 / 256 * (wt f * freq q k ((r : ℤ) - d) f) := by
    intro f _
    rw [freq_parts]
    have e : (f : ℤ) * ((r : ℤ) - d) = ((r * f : ℕ) : ℤ) + -((f * d : ℕ) : ℤ) := by push_cast; ring
    rw [e, cosT_add, sinT_add, cosT_neg, sinT_neg]
    ring
  rw [sum_congr rfl h, ← mul_sum, sum_half _ (fun f hf => freq_reflect q k _ f hf), sum_freq q k _ l hl]
  ring

/-- The plain correlation: the inverse transform of the product of one spectrum with the other's conjugate. -/
theorem plain_corr (q k : Fin 256 → ℝ) (l : Fin 256) :
    ((∑ f : Fin 256, cosT ((l.val * f.val : ℕ) : ℤ) * (cPart q f * cPart k f + -sPart q f * -sPart k f))
      - (∑ f : Fin 256, sinT ((l.val * f.val : ℕ) : ℤ) * (-sPart q f * cPart k f - cPart q f * -sPart k f))) * (1 / 256)
      = corr q k l := by
  rw [← sum_sub_distrib]
  have h : ∀ f : Fin 256, cosT ((l.val * f.val : ℕ) : ℤ) * (cPart q f * cPart k f + -sPart q f * -sPart k f)
      - sinT ((l.val * f.val : ℕ) : ℤ) * (-sPart q f * cPart k f - cPart q f * -sPart k f)
      = freq q k l.val (f.val : ℕ) := by
    intro f
    rw [freq_parts]
    have e : ((f.val : ℕ) : ℤ) * (l.val : ℤ) = ((l.val * f.val : ℕ) : ℤ) := by push_cast; ring
    rw [e]
    ring
  rw [sum_congr rfl fun f _ => h f, Fin.sum_univ_eq_sum_range (fun f => freq q k l.val (f : ℕ)) 256,
    sum_freq q k _ l (by simp)]
  ring

end Cert.Mine
-- ==== Proof.Select.lean ====
/- Which lags are selected, on one column of 256 correlations. "The greatest below the last one", taken ten times from
   the maximum, is the eleventh greatest where the twelve greatest are pairwise distinct, so the lags at or above it are
   the eleven greatest ones; and the sums over those lags weighted by exponentials and divided at the end are the
   sums weighted by the softmax. -/
module

public import proofs.«01_k».proof.Proof.Math

@[expose] public section

noncomputable section

namespace Cert.Mine

open Finset Idealize.ShloMosaic

/-- A sum of reals read as extended reals is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A real factor that is not negative goes into a sum of extended reals. -/
theorem sum_mul_coe {ι : Type*} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [sum_insert hb, sum_insert hb, ← ih]
    exact EReal.right_distrib_of_nonneg_of_ne_top (by exact_mod_cast ha) (EReal.coe_ne_top a) _ _

/-- The greatest of 256 numbers. -/
def top (c : Fin 256 → EReal) : EReal := univ.fold max ⊥ c

/-- The greatest of those of 256 numbers that lie below `m`. -/
def below (c : Fin 256 → EReal) (m : EReal) : EReal := univ.fold max ⊥ fun r => if c r < m then c r else ⊥

/-- The greatest below, ten times over from the maximum. -/
def eleventh (c : Fin 256 → EReal) : EReal :=
  below c (below c (below c (below c (below c (below c (below c (below c (below c (below c (top c))))))))))

theorem fold_max_eq_sup (f : Fin 256 → EReal) : univ.fold max ⊥ f = univ.sup f := rfl

theorem top_sorted (c : Fin 256 → EReal) (p : Fin 256 → Fin 256) (hp : Function.Surjective p)
    (ha : Antitone (c ∘ p)) : top c = c (p 0) := by
  unfold top
  rw [fold_max_eq_sup]
  apply le_antisymm
  · refine Finset.sup_le fun r _ => ?_
    obtain ⟨j, rfl⟩ := hp r
    exact ha (Fin.zero_le j)
  · exact Finset.le_sup (f := c) (mem_univ _)

theorem below_sorted (c : Fin 256 → EReal) (p : Fin 256 → Fin 256) (hp : Function.Surjective p)
    (ha : Antitone (c ∘ p)) (i j : Fin 256) (hij : i.val + 1 = j.val) (hs : c (p j) < c (p i)) :
    below c (c (p i)) = c (p j) := by
  unfold below
  rw [fold_max_eq_sup]
  apply le_antisymm
  · refine Finset.sup_le fun r _ => ?_
    obtain ⟨e, rfl⟩ := hp r
    split_ifs with h
    · refine ha (?_ : j ≤ e)
      by_contra hn
      have : e ≤ i := by rw [Fin.le_def]; rw [Fin.not_le, Fin.lt_def] at hn; omega
      exact absurd (ha this) (not_le.mpr h)
    · exact bot_le
  · have := Finset.le_sup (f := fun r => if c r < c (p i) then c r else ⊥) (mem_univ (p j))
    simpa only [if_pos hs] using this

theorem eleventh_sorted (c : Fin 256 → EReal) (p : Fin 256 → Fin 256) (hp : Function.Surjective p)
    (ha : Antitone (c ∘ p)) (hs : ∀ i j : Fin 256, i.val + 1 = j.val → i.val < 11 → c (p j) < c (p i)) :
    eleventh c = c (p 10) := by
  unfold eleventh
  rw [top_sorted c p hp ha,
    below_sorted c p hp ha 0 1 rfl (hs 0 1 rfl (by decide)),
    below_sorted c p hp ha 1 2 rfl (hs 1 2 rfl (by decide)),
    below_sorted c p hp ha 2 3 rfl (hs 2 3 rfl (by decide)),
    below_sorted c p hp ha 3 4 rfl (hs 3 4 rfl (by decide)),
    below_sorted c p hp ha 4 5 rfl (hs 4 5 rfl (by decide)),
    below_sorted c p hp ha 5 6 rfl (hs 5 6 rfl (by decide)),
    below_sorted c p hp ha 6 7 rfl (hs 6 7 rfl (by decide)),
    below_sorted c p hp ha 7 8 rfl (hs 7 8 rfl (by decide)),
    below_sorted c p hp ha 8 9 rfl (hs 8 9 rfl (by decide)),
    below_sorted c p hp ha 9 10 rfl (hs 9 10 rfl (by decide))]

/-- The sorted order's positions at or above the eleventh are the first eleven. -/
theorem at_least_iff (c : Fin 256 → EReal) (p : Fin 256 → Fin 256)
    (ha : Antitone (c ∘ p)) (hs : ∀ i j : Fin 256, i.val + 1 = j.val → i.val < 11 → c (p j) < c (p i)) (e : Fin 256) :
    c (p 10) ≤ c (p e) ↔ e.val < 11 := by
  constructor
  · intro h
    by_contra hn
    have h1 : c (p e) ≤ c (p 11) := ha (by rw [Fin.le_def]; show 11 ≤ e.val; omega)
    exact absurd (h.trans h1) (not_le.mpr (hs 10 11 rfl (by decide)))
  · intro h
    exact ha (by rw [Fin.le_def]; show e.val ≤ 10; omega)

/-- The index that the gather reads at lag `l` for a channel turned by `d`: past the end it stays at the end. -/
def capped (l d : Fin 256) : Fin 256 := ⟨min (l.val + d.val) 255, by omega⟩

/-- The kernel's weight of row `r`: the exponential over the maximum where the correlation is among the selected. -/
def weight (c : Fin 256 → EReal) (r : Fin 256) : EReal :=
  if eleventh c ≤ c r then Ideal.exp (c r - top c) else 0

/-- The kernel's output for one column of correlations and one of values. -/
def colOut (c v : Fin 256 → EReal) : EReal :=
  Ideal.div (512 * ∑ r, weight c r * v r) (∑ r, weight c r)

theorem top_reindex (c : Fin 256 → EReal) (e : Fin 256 ≃ Fin 256) : top (fun r => c (e r)) = top c := by
  unfold top
  rw [fold_max_eq_sup, fold_max_eq_sup]
  apply le_antisymm
  · exact Finset.sup_le fun r _ => Finset.le_sup (f := c) (mem_univ _)
  · refine Finset.sup_le fun r _ => ?_
    have := Finset.le_sup (f := fun r => c (e r)) (mem_univ (e.symm r))
    simpa using this

/-- One column: rows are lags turned by `d`, the twelve greatest correlations are pairwise distinct, `p` lists the lags
    from the greatest correlation down. The kernel's output is 512 times the softmax-weighted sum of the values that
    the plain text gathers. -/
theorem colOut_eq (C : Fin 256 → ℝ) (p : Fin 256 → Fin 256) (hp : Function.Bijective p) (ha : Antitone (C ∘ p))
    (hs : ∀ i j : Fin 256, i.val + 1 = j.val → i.val < 11 → C (p j) < C (p i)) (d : Fin 256) (V : Fin 256 → EReal) :
    colOut (fun r => (C (r - d) : EReal)) (fun r => if d ≤ r then V r else V 255)
      = 512 * ∑ k : Fin 11,
          Ideal.div (Real.exp (C (p (k.castLE (by decide))) - C (p 0)) : ℝ)
            ((∑ k' : Fin 11, Real.exp (C (p (k'.castLE (by decide))) - C (p 0)) : ℝ) : EReal)
          * V (capped (p (k.castLE (by decide))) d) := by
  set q : Fin 256 → Fin 256 := fun j => p j + d with hq
  have hqb : Function.Bijective q := (Equiv.addRight d).bijective.comp hp
  set c : Fin 256 → EReal := fun r => (C (r - d) : EReal) with hc
  have hcq : ∀ j, c (q j) = (C (p j) : EReal) := fun j => by simp only [hc, hq, add_sub_cancel_right]
  have haq : Antitone (c ∘ q) := fun i j h => by
    simp only [Function.comp, hcq]; exact_mod_cast ha h
  have hsq : ∀ i j : Fin 256, i.val + 1 = j.val → i.val < 11 → c (q j) < c (q i) := fun i j h1 h2 => by
    rw [hcq, hcq]; exact_mod_cast hs i j h1 h2
  have htop : top c = (C (p 0) : EReal) := by rw [top_sorted c q hqb.2 haq, hcq]
  have hel : eleventh c = c (q 10) := eleventh_sorted c q hqb.2 haq hsq
  have hw : ∀ j, weight c (q j) = if j.val < 11 then ((Real.exp (C (p j) - C (p 0)) : ℝ) : EReal) else 0 := by
    intro j
    unfold weight
    rw [hel, htop]
    by_cases h : j.val < 11
    · rw [if_pos h, if_pos ((at_least_iff c q haq hsq j).mpr h), hcq, ← EReal.coe_sub, Ideal.exp_coe]
    · rw [if_neg h, if_neg (fun h' => h ((at_least_iff c q haq hsq j).mp h'))]
  have hv : ∀ j, (if d ≤ q j then V (q j) else V 255) = V (capped (p j) d) := by
    intro j
    have hval : (q j).val = ((p j).val + d.val) % 256 := Fin.val_add _ _
    have h1 := (p j).isLt
    have h2 := d.isLt
    split_ifs with h
    · congr 1
      rw [Fin.ext_iff, hval]
      rw [Fin.le_def, hval] at h
      show _ = min _ _
      omega
    · congr 1
      rw [Fin.ext_iff]
      rw [Fin.le_def, hval] at h
      show 255 = min _ _
      omega
  have cut : ∀ g : Fin 256 → EReal, (∀ j : Fin 256, ¬ j.val < 11 → g j = 0) →
      ∑ j, g j = ∑ k : Fin 11, g (k.castLE (by decide)) := by
    intro g hg
    symm
    refine Finset.sum_of_injOn (fun k : Fin 11 => (k.castLE (by decide) : Fin 256)) ?_ ?_ ?_ ?_
    · intro a _ b _ h; exact Fin.castLE_injective _ h
    · intro a _; simp
    · intro j _ hj
      apply hg
      intro hlt
      apply hj
      exact ⟨⟨j.val, hlt⟩, by simp, rfl⟩
    · intro k _; rfl
  set E : ℝ := ∑ k' : Fin 11, Real.exp (C (p (k'.castLE (by decide))) - C (p 0)) with hE
  have hEpos : 0 < E := Finset.sum_pos (fun k _ => Real.exp_pos _) ⟨0, mem_univ _⟩
  have hden : ∑ r, weight c r = (E : EReal) := by
    rw [← (Equiv.ofBijective q hqb).sum_comp]
    show ∑ j, weight c (q j) = _
    rw [cut _ (fun j hj => by rw [hw, if_neg hj]), hE, coe_sum]
    refine sum_congr rfl fun k _ => ?_
    rw [hw, if_pos (show (Fin.castLE (by decide) k : Fin 256).val < 11 from k.isLt)]
  have hnum : ∑ r, weight c r * (if d ≤ r then V r else V 255)
      = ∑ k : Fin 11, ((Real.exp (C (p (k.castLE (by decide))) - C (p 0)) : ℝ) : EReal)
          * V (capped (p (k.castLE (by decide))) d) := by
    rw [← (Equiv.ofBijective q hqb).sum_comp]
    show ∑ j, weight c (q j) * (if d ≤ q j then V (q j) else V 255) = _
    rw [cut _ (fun j hj => by rw [hw, if_neg hj, zero_mul])]
    refine sum_congr rfl fun k _ => ?_
    rw [hw, if_pos (show (Fin.castLE (by decide) k : Fin 256).val < 11 from k.isLt), hv]
  unfold colOut
  rw [hden, hnum, Ideal.div_coe hEpos.ne', mul_assoc, sum_mul_coe _ _ _ (by positivity)]
  congr 1
  refine sum_congr rfl fun k _ => ?_
  rw [Ideal.div_coe hEpos.ne', mul_assoc, mul_assoc]
  congr 1
  exact mul_comm _ _

end Cert.Mine
-- ==== Proof.KVal.lean ====
/- What one grid step computes, read at an index in extended reals: the correlation block from its tables and its query
   and key blocks, and the output block from a correlation block and a values block, column by column. -/
module

public import proofs.«01_k».proof.Proof.Body
public import proofs.«01_k».proof.Proof.Select
public import Idealize.ShloMosaic.Lib.Pointwise

@[expose] public section

set_option maxRecDepth 16384

noncomputable section

namespace Cert.Mine

open Cert.KernelIdeal Cert.KernelIdeal.Gen
open Idealize.ShloMosaic

/-- The pattern of minus infinity. -/
theorem neg_inf_word : Ideal.ofBits .f32 0xFF800000#32 = ⊥ := by
  simp [Ideal.ofBits, Ideal.ieee]

/-- The pattern of 512. -/
theorem word_512 : Ideal.ofBits .f32 0x44000000#32 = 512 := by
  simp [Ideal.ofBits, Ideal.ieee]
  rw [← EReal.coe_mul]
  norm_num
  rfl

/-- A column's position in its head. -/
def turn (c : Fin 1024) : Fin 256 := ⟨c.val % 256, Nat.mod_lt _ (by decide)⟩

theorem word_turn (c : Fin 1024) : IntOp.andi (BitVec.ofNat 32 c.val) 255#32 = BitVec.ofNat 32 (turn c).val := by
  apply BitVec.eq_of_toNat_eq
  have hc := c.isLt
  show (BitVec.ofNat 32 c.val &&& 255#32).toNat = _
  rw [BitVec.toNat_and, BitVec.toNat_ofNat, BitVec.toNat_ofNat, BitVec.toNat_ofNat]
  have : (255 % 2 ^ 32 : ℕ) = 2 ^ 8 - 1 := by decide
  rw [this, Nat.and_two_pow_sub_one_eq_mod]
  show _ = (c.val % 256) % 2 ^ 32
  omega

theorem select_turn {α : Type} (r : Fin 256) (c : Fin 1024) (a b : α) :
    Scalar.select (IntOp.cmpi .sge (BitVec.ofNat 32 r.val) (IntOp.andi (BitVec.ofNat 32 c.val) 255#32)) a b
      = if turn c ≤ r then a else b := by
  rw [word_turn]
  have e : IntOp.cmpi .sge (BitVec.ofNat 32 r.val) (BitVec.ofNat 32 (turn c).val) = BitVec.ofBool (decide (turn c ≤ r)) := by
    have key : ∀ r d : Fin 256, IntOp.cmpi .sge (BitVec.ofNat 32 r.val) (BitVec.ofNat 32 d.val) = BitVec.ofBool (decide (d ≤ r)) := by
      intro r d
      have hr := r.isLt
      have hd := d.isLt
      have h1 : (BitVec.ofNat 32 r.val).toInt = r.val := by
        rw [BitVec.toInt_eq_toNat_of_lt (by rw [BitVec.toNat_ofNat]; omega), BitVec.toNat_ofNat]; omega
      have h2 : (BitVec.ofNat 32 d.val).toInt = d.val := by
        rw [BitVec.toInt_eq_toNat_of_lt (by rw [BitVec.toNat_ofNat]; omega), BitVec.toNat_ofNat]; omega
      simp only [IntOp.cmpi, BitVec.sle, h1, h2, Fin.le_def]
      congr 1
      simp
    exact key _ _
  rw [e]
  by_cases h : turn c ≤ r
  · simp [h, Scalar.select]
  · simp [h, Scalar.select]

/-- The output block: one column at a time, from the column of correlations and the column of values. -/
theorem outOf_apply (p v : Vec Ideal S1x256x1024 .f32) (r : Fin 256) (c : Fin 1024) :
    outOf p v (ix3 0 r c)
      = colOut (fun r => p (ix3 0 r c)) (fun r => if turn c ≤ r then v (ix3 0 r c) else v (ix3 0 255 c)) := by
  unfold outOf colOut weight eleventh
  pointwise [k0_pay1, k0_pay4, k0_pay21, k0_pay3, k0_pay24, k0_pay23, k0_pay25, k0_pay22]
  simp only [neg_inf_word, word_512, select_turn]
  rfl

variable {q k : Fin 256 → Fin 1024 → ℝ}

/-- A spectrum block: the six-fold split into high and low parts leaves the product with the whole table. -/
theorem pay5_apply (X : Vec Ideal S1x256x1024 .f32) (x0 x1 : Vec Ideal S272x256 .bf16) (a : Fin 272 → Fin 256 → ℝ)
    (h0 : ∀ i t, x0 (ix2 i t) = (a i t : EReal)) (h1 : ∀ i t, x1 (ix2 i t) = 0)
    (hX : ∀ t c, X (ix3 0 t c) = (q t c : EReal)) (i : Fin 272) (c : Fin 1024) :
    k0_pay5 X x0 x1 (ix2 i c) = ((∑ t, a i t * q t c : ℝ) : EReal) := by
  pointwise [k0_pay5]
  simp only [h0, h1, hX, ← EReal.coe_sub, ← EReal.coe_mul, sub_self, mul_zero, zero_mul, EReal.coe_zero,
    Finset.sum_const_zero, add_zero, coe_sum]

theorem pay11_apply (X : Vec Ideal S1x256x1024 .f32) (x0 x1 : Vec Ideal S272x256 .bf16) (a : Fin 272 → Fin 256 → ℝ)
    (h0 : ∀ i t, x0 (ix2 i t) = (a i t : EReal)) (h1 : ∀ i t, x1 (ix2 i t) = 0)
    (hX : ∀ t c, X (ix3 0 t c) = (q t c : EReal)) (i : Fin 272) (c : Fin 1024) :
    k0_pay11 (k0_pay6 x0) (k0_pay7 x1) (k0_pay8 X) (k0_pay9 X) (k0_pay10 X x0)
      (constant S272x1024 .f32 0x00000000#32) (ix2 i c) = ((∑ t, a i t * q t c : ℝ) : EReal) := by
  pointwise [k0_pay11, k0_pay6, k0_pay7, k0_pay8, k0_pay9, k0_pay10, k0_pay2]
  simp only [h0, h1, hX, ← EReal.coe_sub, ← EReal.coe_mul, sub_self, mul_zero, zero_mul, EReal.coe_zero,
    Finset.sum_const_zero, add_zero, coe_sum]

/-- The correlation block from a table of cosines over a table of sines, two inverse tables and two phase tables. -/
theorem corrOf_apply (x0 x1 : Vec Ideal S272x256 .bf16) (x2 x3 x4 x5 : Vec Ideal S256x136 .bf16)
    (x6 x7 : Vec Ideal S136x1024 .f32) (Q K : Vec Ideal S1x256x1024 .f32)
    (a : Fin 272 → Fin 256 → ℝ) (ic is : Fin 256 → Fin 136 → ℝ) (pc ps : Fin 136 → Fin 1024 → ℝ)
    (h0 : ∀ i t, x0 (ix2 i t) = (a i t : EReal)) (h1 : ∀ i t, x1 (ix2 i t) = 0)
    (h2 : ∀ r f, x2 (ix2 r f) = (ic r f : EReal)) (h3 : ∀ r f, x3 (ix2 r f) = 0)
    (h4 : ∀ r f, x4 (ix2 r f) = (is r f : EReal)) (h5 : ∀ r f, x5 (ix2 r f) = 0)
    (h6 : ∀ f c, x6 (ix2 f c) = (pc f c : EReal)) (h7 : ∀ f c, x7 (ix2 f c) = (ps f c : EReal))
    (hQ : ∀ t c, Q (ix3 0 t c) = (q t c : EReal)) (hK : ∀ t c, K (ix3 0 t c) = (k t c : EReal))
    (qr qs kr ks : Fin 136 → Fin 1024 → ℝ)
    (hqr : ∀ f c, qr f c = ∑ t, a ⟨f.val, by omega⟩ t * q t c)
    (hqs : ∀ f c, qs f c = ∑ t, a ⟨136 + f.val, by omega⟩ t * q t c)
    (hkr : ∀ f c, kr f c = ∑ t, a ⟨f.val, by omega⟩ t * k t c)
    (hks : ∀ f c, ks f c = ∑ t, a ⟨136 + f.val, by omega⟩ t * k t c)
    (r : Fin 256) (c : Fin 1024) :
    corrOf x0 x1 x2 x3 x4 x5 x6 x7 Q K (ix3 0 r c)
      = (((∑ f, ic r f * ((qr f c * kr f c + qs f c * ks f c) * pc f c + (qr f c * ks f c - qs f c * kr f c) * ps f c))
          + (∑ f, is r f * ((qr f c * ks f c - qs f c * kr f c) * pc f c - (qr f c * kr f c + qs f c * ks f c) * ps f c)) : ℝ) : EReal) := by
  have eqr : ∀ f c, k0_pay5 Q x0 x1 (ix2 ⟨f.val, by omega⟩ c) = (qr f c : EReal) := fun f c => by
    rw [pay5_apply Q x0 x1 a h0 h1 hQ, hqr]
  have eqs : ∀ f c, k0_pay5 Q x0 x1 (ix2 ⟨136 + f.val, by omega⟩ c) = (qs f c : EReal) := fun f c => by
    rw [pay5_apply Q x0 x1 a h0 h1 hQ, hqs]
  have ekr : ∀ f c, k0_pay11 (k0_pay6 x0) (k0_pay7 x1) (k0_pay8 K) (k0_pay9 K) (k0_pay10 K x0)
      (constant S272x1024 .f32 0x00000000#32) (ix2 ⟨f.val, by omega⟩ c) = (kr f c : EReal) := fun f c => by
    rw [pay11_apply K x0 x1 a h0 h1 hK, hkr]
  have eks : ∀ f c, k0_pay11 (k0_pay6 x0) (k0_pay7 x1) (k0_pay8 K) (k0_pay9 K) (k0_pay10 K x0)
      (constant S272x1024 .f32 0x00000000#32) (ix2 ⟨136 + f.val, by omega⟩ c) = (ks f c : EReal) := fun f c => by
    rw [pay11_apply K x0 x1 a h0 h1 hK, hks]
  unfold corrOf
  generalize k0_pay5 Q x0 x1 = A at eqr eqs ⊢
  unfold k0_pay18 k0_pay19 k0_pay16 k0_pay17 k0_pay14 k0_pay15
  generalize k0_pay11 (k0_pay6 x0) (k0_pay7 x1) (k0_pay8 K) (k0_pay9 K) (k0_pay10 K x0)
      (constant S272x1024 .f32 0x00000000#32) = B at ekr eks ⊢
  pointwise [k0_pay20, k0_pay12, k0_pay13]
  simp only [eqr, eqs, ekr, eks, h2, h3, h4, h5, h6, h7, ← EReal.coe_sub, ← EReal.coe_mul, ← EReal.coe_add, sub_self,
    mul_zero, zero_mul, EReal.coe_zero, Finset.sum_const_zero, add_zero]
  simp only [EReal.coe_add, coe_sum]

end Cert.Mine
-- ==== Proof.Tables.lean ====
/- The kernel's constant tables, read at an index: the cosines and sines of the whole number of 256ths of a turn, the
   weights of the half spectrum, and the low parts of the splits, which are zero. -/
module

public import proofs.«01_k».proof.Proof.Math
public import proofs.«01_k».proof.Proof.Gen.KernelIdeal.Frame
public import Idealize.ShloMosaic.Lib.Pointwise
public import Idealize.ShloMosaic.Lib.Tactic.WordOmega
public import Idealize.ShloMosaic.Lib.StableHlo.ReadAt

@[expose] public section

set_option maxRecDepth 16384

noncomputable section

namespace Cert.Mine

open Cert.KernelIdeal Cert.KernelIdeal.Gen
open Idealize.ShloMosaic Idealize.ShloMosaic.TcCoe

/-- A channel's column of an array over batches, time steps and channels. -/
def col {α : Type} (q : (⟨3, ![32, 256, 4096]⟩ : Shape).Idx → α) (b : Fin 32) (j : Fin 4096) : Fin 256 → α := fun t => q (ix3 b t j)

/-- Two as a single-precision word. -/
theorem word_two : Ideal.ofBits FTy.f32 1073741824#32 = ((2 : ℝ) : EReal) := by
  simp [Ideal.ofBits, Ideal.ieee]
  rw [← EReal.coe_mul]; norm_num

/-- 256 as a single-precision word. -/
theorem word_256 : Ideal.ofBits FTy.f32 1132462080#32 = ((256 : ℝ) : EReal) := by
  simp [Ideal.ofBits, Ideal.ieee]
  rw [← EReal.coe_mul]; norm_num

/-- Minus one as a single-precision word. -/
theorem word_neg_one : Ideal.ofBits FTy.f32 3212836864#32 = ((-1 : ℝ) : EReal) := by
  simp [Ideal.ofBits, Ideal.ieee]
  try (rw [← EReal.coe_mul]; norm_num)

/-- Twice the angle whose cosine is minus one is a full turn. -/
theorem full_turn : Ideal.ofBits FTy.f32 1073741824#32 * Ideal.acos (Ideal.ofBits FTy.f32 3212836864#32) = ((2 * Real.pi : ℝ) : EReal) := by
  rw [word_two, word_neg_one, Ideal.acos_coe, if_pos (by norm_num), Real.arccos_neg_one, ← EReal.coe_mul]

/-- The word of a number below two to the thirty-one, as a signed integer. -/
theorem small_toInt (n : ℕ) (h : n < 2147483648) : (BitVec.ofNat 32 n).toInt = (n : ℤ) := by
  rw [BitVec.toInt_eq_toNat_of_lt (by rw [BitVec.toNat_ofNat]; omega), BitVec.toNat_ofNat]; omega

/-- The product of two small numbers, taken modulo 256 on words. -/
theorem word_prod_mod (i t : ℕ) (hi : i < 1024) (ht : t < 1024) :
    IntOp.andi (IntOp.muli (BitVec.ofNat 32 i) (BitVec.ofNat 32 t)) 255#32 = BitVec.ofNat 32 (i * t % 256) := by
  have hb : i * t < 1048576 := by nlinarith
  unfold IntOp.andi IntOp.muli
  apply BitVec.eq_of_toNat_eq
  rw [BitVec.toNat_and, BitVec.toNat_mul]
  simp only [BitVec.toNat_ofNat]
  rw [Nat.mod_eq_of_lt (show i < 2 ^ 32 by omega), Nat.mod_eq_of_lt (show t < 2 ^ 32 by omega), Nat.mod_eq_of_lt (show i * t < 2 ^ 32 by omega),
    Nat.mod_eq_of_lt (show i * t % 256 < 2 ^ 32 by omega), Nat.mod_eq_of_lt (show 255 < 2 ^ 32 by omega)]
  exact Nat.and_two_pow_sub_one_eq_mod (i * t) 8

/-- The angle of an entry, reduced by whole turns. -/
theorem angle (i t : ℕ) (hi : i < 1024) (ht : t < 1024) :
    Ideal.div (Ideal.ofBits FTy.f32 1073741824#32 * Ideal.acos (Ideal.ofBits FTy.f32 3212836864#32) *
            FloatOps.sitofp (F := Ideal) FTy.f32 (IntOp.andi (IntOp.muli (BitVec.ofNat 32 i) (BitVec.ofNat 32 t)) 255#32))
          (Ideal.ofBits FTy.f32 1132462080#32) = ((2 * Real.pi * (((i * t % 256 : ℕ) : ℤ) : ℝ) / 256 : ℝ) : EReal) := by
  rw [word_prod_mod i t hi ht, full_turn, word_256]
  rw [show FloatOps.sitofp (F := Ideal) FTy.f32 (BitVec.ofNat 32 (i * t % 256)) = (((BitVec.ofNat 32 (i * t % 256)).toInt : ℝ) : EReal) from rfl,
    small_toInt _ (by omega), Ideal.div_coe (by norm_num), ← EReal.coe_mul, ← EReal.coe_mul]
  congr 1; ring

theorem angle_cos (i t : ℕ) (hi : i < 1024) (ht : t < 1024) :
    Ideal.cos (Ideal.div (Ideal.ofBits FTy.f32 1073741824#32 * Ideal.acos (Ideal.ofBits FTy.f32 3212836864#32) *
            FloatOps.sitofp (F := Ideal) FTy.f32 (IntOp.andi (IntOp.muli (BitVec.ofNat 32 i) (BitVec.ofNat 32 t)) 255#32))
          (Ideal.ofBits FTy.f32 1132462080#32)) = ((cosT ((i * t : ℕ) : ℤ) : ℝ) : EReal) := by
  rw [angle i t hi ht, Ideal.cos_coe, ← cosT_mod]; rfl

theorem angle_sin (i t : ℕ) (hi : i < 1024) (ht : t < 1024) :
    Ideal.sin (Ideal.div (Ideal.ofBits FTy.f32 1073741824#32 * Ideal.acos (Ideal.ofBits FTy.f32 3212836864#32) *
            FloatOps.sitofp (F := Ideal) FTy.f32 (IntOp.andi (IntOp.muli (BitVec.ofNat 32 i) (BitVec.ofNat 32 t)) 255#32))
          (Ideal.ofBits FTy.f32 1132462080#32)) = ((sinT ((i * t : ℕ) : ℤ) : ℝ) : EReal) := by
  rw [angle i t hi ht, Ideal.sin_coe, ← sinT_mod]; rfl

/-- Choosing by "at most 128" on words. -/
theorem select_half {α : Type} (i : ℕ) (hi : i < 1024) (x y : α) :
    Scalar.select (IntOp.cmpi CmpIPredicate.sle (BitVec.ofNat 32 i) 128#32) x y = if i ≤ 128 then x else y := by
  unfold Scalar.select IntOp.cmpi
  simp only [BitVec.sle, small_toInt i (by omega)]
  by_cases h : i ≤ 128 <;> simp [h] <;> omega

/-- Choosing by "0 or 128" on words. -/
theorem select_ends {α : Type} (i : ℕ) (hi : i < 1024) (x y : α) :
    Scalar.select (IntOp.ori (IntOp.cmpi CmpIPredicate.eq (BitVec.ofNat 32 i) 0#32)
      (IntOp.cmpi CmpIPredicate.eq (BitVec.ofNat 32 i) 128#32)) x y = if i = 0 ∨ i = 128 then x else y := by
  have e0 : (BitVec.ofNat 32 i == 0#32) = decide (i = 0) := by
    rw [Bool.eq_iff_iff]; simp only [beq_iff_eq, decide_eq_true_eq, ← BitVec.toNat_inj, BitVec.toNat_ofNat]; omega
  have e1 : (BitVec.ofNat 32 i == 128#32) = decide (i = 128) := by
    rw [Bool.eq_iff_iff]; simp only [beq_iff_eq, decide_eq_true_eq, ← BitVec.toNat_inj, BitVec.toNat_ofNat]; omega
  unfold Scalar.select IntOp.ori IntOp.cmpi
  simp only [e0, e1]
  by_cases h : i = 0 <;> by_cases h' : i = 128 <;> simp [h, h']

variable (m : (ℓ : Loc nD τ sig) → Buf (Elt Ideal) ℓ)

/-- The cosine table's entry: zero beyond the middle frequency. -/
def fc (i t : ℕ) : ℝ := if i ≤ 128 then cosT ((i * t : ℕ) : ℤ) else 0
/-- The sine table's entry: zero beyond the middle frequency. -/
def fs (i t : ℕ) : ℝ := if i ≤ 128 then sinT ((i * t : ℕ) : ℤ) else 0

theorem half_coe (i : ℕ) (x : ℝ) : (if i ≤ 128 then (x : EReal) else 0) = ((if i ≤ 128 then x else 0 : ℝ) : EReal) := by
  split_ifs <;> simp

theorem fc_of (i t t' : ℕ) (h : t' = t) : (if i ≤ 128 then ((cosT ((i * t : ℕ) : ℤ) : ℝ) : EReal) else 0) = ((fc i t' : ℝ) : EReal) := by
  subst h; exact half_coe _ _

theorem fs_of (i t t' : ℕ) (h : t' = t) : (if i ≤ 128 then ((sinT ((i * t : ℕ) : ℤ) : ℝ) : EReal) else 0) = ((fs i t' : ℝ) : EReal) := by
  subst h; exact half_coe _ _

theorem tab_fwdh (c : Dev nD) (i : Fin 272) (t : Fin 256) :
    (V m c main_v57 (ix2 i t) : EReal) = ((if i.val < 136 then fc i.val t.val else fs (i.val - 136) t.val : ℝ) : EReal) := by
  have := i.isLt
  have := t.isLt
  by_cases h : i.val < 136
  · rw [if_pos h]
    unfold V
    after_reads_at
    rw [dif_pos h]
    after_reads_at
    rw [angle_cos _ _ (by omega) (by omega), select_half _ (by omega)]
    exact fc_of _ _ _ rfl
  · rw [if_neg h]
    unfold V
    after_reads_at
    rw [dif_neg h]
    after_reads_at
    try (split_ifs; rotate_left; (rename_i h; exact absurd rfl h))
    try after_reads_at
    rw [angle_sin _ _ (by omega) (by omega), select_half _ (by omega)]
    exact fs_of _ _ _ rfl

theorem tab_fwdl (c : Dev nD) (i : Fin 272) (t : Fin 256) : @Eq EReal (V m c main_v60 (ix2 i t)) 0 := by
  have e : @Eq EReal (V m c main_v60 (ix2 i t)) (@HSub.hSub EReal EReal EReal _ (V m c main_v57 (ix2 i t)) (V m c main_v57 (ix2 i t))) := by
    unfold V
    after_reads_at
  rw [e, tab_fwdh, ← EReal.coe_sub, sub_self, EReal.coe_zero]

theorem tab_phc (c : Dev nD) (f : Fin 136) (t : Fin 1024) :
    (V m c main_v55 (ix2 f t) : EReal) = ((fc f.val (t.val % 256) : ℝ) : EReal) := by
  have hf := f.isLt
  have ht := t.isLt
  unfold V
  after_reads_at
  split_ifs
  all_goals try (rename_i h; exact absurd rfl h)
  all_goals
    after_reads_at
    rw [angle_cos _ _ (by omega) (by omega), select_half _ (by omega)]
    exact fc_of _ _ _ (by omega)

theorem tab_phs (c : Dev nD) (f : Fin 136) (t : Fin 1024) :
    (V m c main_v56 (ix2 f t) : EReal) = ((fs f.val (t.val % 256) : ℝ) : EReal) := by
  have hf := f.isLt
  have ht := t.isLt
  unfold V
  after_reads_at
  split_ifs
  all_goals try (rename_i h; exact absurd rfl h)
  all_goals
    after_reads_at
    rw [angle_sin _ _ (by omega) (by omega), select_half _ (by omega)]
    exact fs_of _ _ _ (by omega)

/-- The weight of a frequency, as the kernel's host chooses it. -/
theorem pick_wt (x : ℝ) (f : ℕ) (hf : f < 1024) :
    Scalar.select (IntOp.cmpi CmpIPredicate.sle (BitVec.ofNat 32 f) 128#32)
      ((x : EReal) * Scalar.select (IntOp.ori (IntOp.cmpi CmpIPredicate.eq (BitVec.ofNat 32 f) 0#32)
        (IntOp.cmpi CmpIPredicate.eq (BitVec.ofNat 32 f) 128#32)) 1 (Ideal.ofBits FTy.f32 1073741824#32)) 0
      = ((x * wt f : ℝ) : EReal) := by
  rw [select_half f hf, select_ends f hf, word_two]
  unfold wt
  split_ifs <;> simp [EReal.coe_mul]

theorem div_256 (x : ℝ) : Ideal.div (x : EReal) (Ideal.ofBits FTy.f32 1132462080#32) = ((x / 256 : ℝ) : EReal) := by
  rw [word_256, Ideal.div_coe (by norm_num), ← EReal.coe_mul]; congr 1; ring

theorem tab_invch (c : Dev nD) (r : Fin 256) (f : Fin 136) :
    (V m c main_v61 (ix2 r f) : EReal) = ((cosT ((r.val * f.val : ℕ) : ℤ) * wt f.val / 256 : ℝ) : EReal) := by
  unfold V
  after_reads_at
  rw [angle_cos _ _ (by omega) (by omega), pick_wt _ _ (by omega), div_256]

theorem tab_invcl (c : Dev nD) (r : Fin 256) (f : Fin 136) : @Eq EReal (V m c main_v64 (ix2 r f)) 0 := by
  unfold V
  after_reads_at
  rw [angle_cos _ _ (by omega) (by omega), pick_wt _ _ (by omega), div_256, ← EReal.coe_sub, sub_self, EReal.coe_zero]

theorem tab_invsh (c : Dev nD) (r : Fin 256) (f : Fin 136) :
    (V m c main_v65 (ix2 r f) : EReal) = ((-sinT ((r.val * f.val : ℕ) : ℤ) * wt f.val / 256 : ℝ) : EReal) := by
  unfold V
  after_reads_at
  rw [angle_sin _ _ (by omega) (by omega), ← EReal.coe_neg, pick_wt _ _ (by omega), div_256]

theorem tab_invsl (c : Dev nD) (r : Fin 256) (f : Fin 136) : @Eq EReal (V m c main_v68 (ix2 r f)) 0 := by
  unfold V
  after_reads_at
  rw [angle_sin _ _ (by omega) (by omega), ← EReal.coe_neg, pick_wt _ _ (by omega), div_256, ← EReal.coe_sub, sub_self, EReal.coe_zero]

end Cert.Mine
-- ==== Proof.Blocks.lean ====
/- The blocks that a grid step works on, read at an index, and what the run leaves in the output array, column by column. -/
module

public import proofs.«01_k».proof.Proof.Run
public import proofs.«01_k».proof.Proof.KVal
public import proofs.«01_k».proof.Proof.Tables
public import Idealize.ShloMosaic.Lib.Pipeline.ValueKit.Point

@[expose] public section

set_option maxRecDepth 16384

noncomputable section

namespace Cert.Mine

open Cert.KernelIdeal Cert.KernelIdeal.Gen
open Idealize.ShloMosaic Idealize.ShloMosaic.TcCoe Idealize.SL.Sem

variable (m : (ℓ : Loc nD τ sig) → Buf (Elt Ideal) ℓ)

/-- Step `t` of the first 128. -/
def stepOf (t : Fin 128) : Fin cfg0.N := ⟨t.val, Nat.lt_succ_of_lt t.isLt⟩
/-- The step after step `t` of the first 128. -/
def stepAfter (t : Fin 128) : Fin cfg0.N := ⟨t.val + 1, Nat.succ_lt_succ t.isLt⟩
/-- The batch of a step's blocks. -/
def bat (t : Fin 128) : Fin 32 := ⟨t.val / 4, by omega⟩
/-- The array's column under column `j` of a step's blocks. -/
def colAt (t : Fin 128) (j : Fin 1024) : Fin 4096 := ⟨t.val % 4 * 1024 + j.val, by omega⟩

/-- Every table is one block. -/
theorem idx_tab : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  fun _ => ⟨rfl, rfl, rfl, rfl, rfl, rfl, rfl, rfl⟩

/-- Where a step's query and key blocks lie. -/
theorem idx_cur : ∀ t : Fin 128, win0_8.index (stepOf t) = ![t.val / 4, 0, t.val % 4]
    ∧ win0_9.index (stepOf t) = ![t.val / 4, 0, t.val % 4] := by decide +kernel

/-- Where the values block and the output block of the step after lie: at the same place. -/
theorem idx_prev : ∀ t : Fin 128, win0_10.index (stepAfter t) = ![t.val / 4, 0, t.val % 4]
    ∧ win0_11.index (stepAfter t) = ![t.val / 4, 0, t.val % 4] := by decide +kernel

theorem blk0 (c : Dev nD) (t : Fin cfg0.N) (i : Fin 272) (j : Fin 256) : (iblk m c 0 t (ix2 i j) : EReal) = V m c main_v57 (ix2 i j) := by
  have h := (idx_tab t).1
  blk_ext [iblk, h]
theorem blk1 (c : Dev nD) (t : Fin cfg0.N) (i : Fin 272) (j : Fin 256) : (iblk m c 1 t (ix2 i j) : EReal) = V m c main_v60 (ix2 i j) := by
  have h := (idx_tab t).2.1
  blk_ext [iblk, h]
theorem blk2 (c : Dev nD) (t : Fin cfg0.N) (i : Fin 256) (j : Fin 136) : (iblk m c 2 t (ix2 i j) : EReal) = V m c main_v61 (ix2 i j) := by
  have h := (idx_tab t).2.2.1
  blk_ext [iblk, h]
theorem blk3 (c : Dev nD) (t : Fin cfg0.N) (i : Fin 256) (j : Fin 136) : (iblk m c 3 t (ix2 i j) : EReal) = V m c main_v64 (ix2 i j) := by
  have h := (idx_tab t).2.2.2.1
  blk_ext [iblk, h]
theorem blk4 (c : Dev nD) (t : Fin cfg0.N) (i : Fin 256) (j : Fin 136) : (iblk m c 4 t (ix2 i j) : EReal) = V m c main_v65 (ix2 i j) := by
  have h := (idx_tab t).2.2.2.2.1
  blk_ext [iblk, h]
theorem blk5 (c : Dev nD) (t : Fin cfg0.N) (i : Fin 256) (j : Fin 136) : (iblk m c 5 t (ix2 i j) : EReal) = V m c main_v68 (ix2 i j) := by
  have h := (idx_tab t).2.2.2.2.2.1
  blk_ext [iblk, h]
theorem blk6 (c : Dev nD) (t : Fin cfg0.N) (i : Fin 136) (j : Fin 1024) : (iblk m c 6 t (ix2 i j) : EReal) = V m c main_v55 (ix2 i j) := by
  have h := (idx_tab t).2.2.2.2.2.2.1
  blk_ext [iblk, h]
theorem blk7 (c : Dev nD) (t : Fin cfg0.N) (i : Fin 136) (j : Fin 1024) : (iblk m c 7 t (ix2 i j) : EReal) = V m c main_v56 (ix2 i j) := by
  have h := (idx_tab t).2.2.2.2.2.2.2
  blk_ext [iblk, h]

theorem blk8 (c : Dev nD) (t : Fin 128) (r : Fin 256) (j : Fin 1024) :
    (iblk m c 8 (stepOf t) (ix3 0 r j) : EReal) = m ((c.tc : Thread nD τ).loc main_arg0) (ix3 (bat t) r (colAt t j)) := by
  have h := (idx_cur t).1
  blk_ext [iblk, V_main_arg0, h, bat, colAt]
theorem blk9 (c : Dev nD) (t : Fin 128) (r : Fin 256) (j : Fin 1024) :
    (iblk m c 9 (stepOf t) (ix3 0 r j) : EReal) = m ((c.tc : Thread nD τ).loc main_arg1) (ix3 (bat t) r (colAt t j)) := by
  have h := (idx_cur t).2
  blk_ext [iblk, V_main_arg1, h, bat, colAt]
theorem blk10 (c : Dev nD) (t : Fin 128) (r : Fin 256) (j : Fin 1024) :
    (iblk m c 10 (stepAfter t) (ix3 0 r j) : EReal) = m ((c.tc : Thread nD τ).loc main_arg2) (ix3 (bat t) r (colAt t j)) := by
  have h := (idx_prev t).1
  blk_ext [iblk, V_main_arg2, h, bat, colAt]

/-- Terms beyond the middle frequency carry no weight, so the zeros of the tables there do not matter. -/
theorem term_cos (f : ℕ) (x u v : ℝ) (hq : f ≤ 128 → u = v) : x * wt f / 256 * u = x * wt f / 256 * v := by
  by_cases h : f ≤ 128
  · rw [hq h]
  · simp [wt, h]

/-- A column's sum against a row of the cosine table. -/
def cSum (q : Fin 256 → ℝ) (f : ℕ) : ℝ := ∑ t : Fin 256, fc f t.val * q t
/-- A column's sum against a row of the sine table. -/
def sSum (q : Fin 256 → ℝ) (f : ℕ) : ℝ := ∑ t : Fin 256, fs f t.val * q t

theorem cSum_eq (q : Fin 256 → ℝ) (f : ℕ) (h : f ≤ 128) : cSum q f = cPart q f :=
  Finset.sum_congr rfl fun t _ => by rw [fc, if_pos h]

theorem sSum_eq (q : Fin 256 → ℝ) (f : ℕ) (h : f ≤ 128) : sSum q f = sPart q f :=
  Finset.sum_congr rfl fun t _ => by rw [fs, if_pos h]

/-- The lag of a row is the row less the column's position, up to whole turns. -/
theorem lag_turns (r : Fin 256) (j : Fin 1024) : (256 : ℤ) ∣ (r.val : ℤ) - (j.val % 256 : ℕ) - (r - turn j).val := by
  have e : (r - turn j).val = (256 - (turn j).val + r.val) % 256 := by
    rw [Fin.sub_def]
  have e' : (turn j).val = j.val % 256 := by simp only [turn]
  rw [e, e']
  have := r.isLt
  omega

/-- The tables' sums, inverted, are the correlation. -/
theorem tables_corr (q k : Fin 256 → ℝ) (r : Fin 256) (j : Fin 1024) :
    (∑ f : Fin 136, cosT ((r.val * f.val : ℕ) : ℤ) * wt f.val / 256 *
        ((cSum q f.val * cSum k f.val + sSum q f.val * sSum k f.val) * fc f.val (j.val % 256)
          + (cSum q f.val * sSum k f.val - sSum q f.val * cSum k f.val) * fs f.val (j.val % 256)))
      + (∑ f : Fin 136, -sinT ((r.val * f.val : ℕ) : ℤ) * wt f.val / 256 *
        ((cSum q f.val * sSum k f.val - sSum q f.val * cSum k f.val) * fc f.val (j.val % 256)
          - (cSum q f.val * cSum k f.val + sSum q f.val * sSum k f.val) * fs f.val (j.val % 256)))
      = corr q k (r - turn j) := by
  refine Eq.trans ?_ (kernel_corr q k r.val (j.val % 256) (r - turn j) (lag_turns r j) (Nat.mod_lt _ (by decide)))
  have hfc : ∀ f n : ℕ, f ≤ 128 → fc f n = cosT ((f * n : ℕ) : ℤ) := fun f n h => if_pos h
  have hfs : ∀ f n : ℕ, f ≤ 128 → fs f n = sinT ((f * n : ℕ) : ℤ) := fun f n h => if_pos h
  generalize hd : j.val % 256 = d
  refine congrArg₂ (fun a b : ℝ => a + b) ((Finset.sum_congr rfl fun f _ => ?_).trans (Finset.sum_range _).symm)
    ((Finset.sum_congr rfl fun f _ => ?_).trans (Finset.sum_range _).symm)
  · refine term_cos f.val _ _ _ fun h => ?_
    rw [hfc _ _ h, hfs _ _ h, cSum_eq q _ h, cSum_eq k _ h, sSum_eq q _ h, sSum_eq k _ h]
  · refine term_cos f.val _ _ _ fun h => ?_
    rw [hfc _ _ h, hfs _ _ h, cSum_eq q _ h, cSum_eq k _ h, sSum_eq q _ h, sSum_eq k _ h]

/-- The table of cosines over the table of sines. -/
def fwdTab (i : Fin 272) (t : Fin 256) : ℝ := if i.val < 136 then fc i.val t.val else fs (i.val - 136) t.val

theorem fwdTab_cos (q : Fin 256 → ℝ) (f : Fin 136) : cSum q f.val = ∑ t, fwdTab ⟨f.val, by omega⟩ t * q t :=
  Finset.sum_congr rfl fun t _ => by rw [fwdTab, if_pos f.isLt]

theorem fwdTab_sin (q : Fin 256 → ℝ) (f : Fin 136) : sSum q f.val = ∑ t, fwdTab ⟨136 + f.val, by omega⟩ t * q t :=
  Finset.sum_congr rfl fun t _ => by rw [fwdTab, if_neg (by simp), Nat.add_sub_cancel_left]

/-- The correlation block of a step: at row `r` of a column, the correlation at the lag `r` less the column's position
    in its head. -/
theorem corrAt_apply (c : Dev nD) (q k : (⟨3, ![32, 256, 4096]⟩ : Shape).Idx → ℝ)
    (hq : ∀ i, @Eq EReal (m ((c.tc : Thread nD τ).loc main_arg0) i) (q i))
    (hk : ∀ i, @Eq EReal (m ((c.tc : Thread nD τ).loc main_arg1) i) (k i)) (t : Fin 128) (r : Fin 256) (j : Fin 1024) :
    corrAt m c (stepOf t) (ix3 0 r j)
      = ((corr (col q (bat t) (colAt t j)) (col k (bat t) (colAt t j)) (r - turn j) : ℝ) : EReal) := by
  rw [← tables_corr]
  exact corrOf_apply (iblk m c 0 (stepOf t)) (iblk m c 1 (stepOf t)) (iblk m c 2 (stepOf t)) (iblk m c 3 (stepOf t))
    (iblk m c 4 (stepOf t)) (iblk m c 5 (stepOf t)) (iblk m c 6 (stepOf t)) (iblk m c 7 (stepOf t)) (iblk m c 8 (stepOf t)) (iblk m c 9 (stepOf t))
    (q := fun t' j => col q (bat t) (colAt t j) t') (k := fun t' j => col k (bat t) (colAt t j) t')
    fwdTab
    (fun r f => cosT ((r.val * f.val : ℕ) : ℤ) * wt f.val / 256) (fun r f => -sinT ((r.val * f.val : ℕ) : ℤ) * wt f.val / 256)
    (fun f t => fc f.val (t.val % 256)) (fun f t => fs f.val (t.val % 256))
    (fun i t' => (blk0 m c _ i t').trans (tab_fwdh m c i t')) (fun i t' => (blk1 m c _ i t').trans (tab_fwdl m c i t'))
    (fun i t' => (blk2 m c _ i t').trans (tab_invch m c i t')) (fun i t' => (blk3 m c _ i t').trans (tab_invcl m c i t'))
    (fun i t' => (blk4 m c _ i t').trans (tab_invsh m c i t')) (fun i t' => (blk5 m c _ i t').trans (tab_invsl m c i t'))
    (fun i t' => (blk6 m c _ i t').trans (tab_phc m c i t')) (fun i t' => (blk7 m c _ i t').trans (tab_phs m c i t'))
    (fun t' j => (blk8 m c t t' j).trans (hq _)) (fun t' j => (blk9 m c t t' j).trans (hk _))
    (fun f j => cSum (col q (bat t) (colAt t j)) f.val) (fun f j => sSum (col q (bat t) (colAt t j)) f.val)
    (fun f j => cSum (col k (bat t) (colAt t j)) f.val) (fun f j => sSum (col k (bat t) (colAt t j)) f.val)
    (fun f j => fwdTab_cos _ f) (fun f j => fwdTab_sin _ f) (fun f j => fwdTab_cos _ f) (fun f j => fwdTab_sin _ f) r j

/-- What the kernel computes of one column: from its correlations, its values and its position in its head. -/
def outCol (q k : Fin 256 → ℝ) (v : Fin 256 → EReal) (d : Fin 256) : EReal :=
  colOut (fun r => ((corr q k (r - d) : ℝ) : EReal)) (fun r => if d ≤ r then v r else v 255)

/-- The output block of the step after. -/
theorem outAt_apply (c : Dev nD) (q k : (⟨3, ![32, 256, 4096]⟩ : Shape).Idx → ℝ)
    (hq : ∀ i, @Eq EReal (m ((c.tc : Thread nD τ).loc main_arg0) i) (q i))
    (hk : ∀ i, @Eq EReal (m ((c.tc : Thread nD τ).loc main_arg1) i) (k i)) (t : Fin 128) (r : Fin 256) (j : Fin 1024) :
    outOf (corrAt m c (stepOf t)) (iblk m c 10 (stepAfter t)) (ix3 0 r j)
      = outCol (col q (bat t) (colAt t j)) (col k (bat t) (colAt t j))
          (col (m ((c.tc : Thread nD τ).loc main_arg2)) (bat t) (colAt t j)) (turn j) := by
  rw [outOf_apply]
  unfold outCol
  congr 1
  · funext r; exact corrAt_apply m c q k hq hk t r j
  · funext r; rw [blk10, blk10]; rfl

/-- The output is written back after every step but the first. -/
theorem flush_out : ∀ t : Fin 128, (cfg0.win 11).flush (stepAfter t) = true := by decide +kernel

theorem flush_first : (cfg0.win 11).flush ⟨0, by decide⟩ = false := by decide +kernel

/-- No two of the blocks written back are the same block. -/
theorem out_disj (t t' : Fin cfg0.N) (h : (cfg0.win 11).flush t = true) (h' : (cfg0.win 11).flush t' = true)
    (e : (cfg0.win 11).index t = (cfg0.win 11).index t') : t = t' := by
  obtain ⟨t, ht⟩ := t; obtain ⟨t', ht'⟩ := t'
  have ht : t < 129 := ht
  have ht' : t' < 129 := ht'
  rcases t with _ | t
  · rw [flush_first] at h; exact absurd h (by decide)
  rcases t' with _ | t'
  · rw [flush_first] at h'; exact absurd h' (by decide)
  have e1 := (idx_prev ⟨t, by omega⟩).2
  have e2 := (idx_prev ⟨t', by omega⟩).2
  have e3 : (![t / 4, 0, t % 4] : Fin 3 → ℕ) = ![t' / 4, 0, t' % 4] := e1.symm.trans (e.trans e2)
  have a := congrFun e3 0
  have b := congrFun e3 2
  simp at a b
  exact Fin.ext (by show t + 1 = t' + 1; omega)

/-- After the run, every entry of the output array. -/
theorem out_of_post (c : Dev nD) (q k : (⟨3, ![32, 256, 4096]⟩ : Shape).Idx → ℝ)
    (hq : ∀ i, @Eq EReal (m ((c.tc : Thread nD τ).loc main_arg0) i) (q i))
    (hk : ∀ i, @Eq EReal (m ((c.tc : Thread nD τ).loc main_arg1) i) (k i))
    (r : PUnit × MemSt nD τ sig (Elt Ideal)) (h : Pipeline.RDat.FramePost (cfgs 0) (fun c => rdata m c) (V m) r)
    (b : Fin 32) (i : Fin 256) (J : Fin 4096) :
    @Eq EReal (r.2.mem ((c.tc : Thread nD τ).loc main_v69) (ix3 b i J))
      (outCol (col q b J) (col k b J) (col (m ((c.tc : Thread nD τ).loc main_arg2)) b J) ⟨J.val % 256, Nat.mod_lt _ (by decide)⟩) := by
  have hlt : b.val * 4 + J.val / 1024 < 128 := by have := b.isLt; have := J.isLt; omega
  let t : Fin 128 := ⟨b.val * 4 + J.val / 1024, hlt⟩
  obtain ⟨X, hX, hmem⟩ := emb_of_post h c (11 : Fin 12) out_disj (stepAfter t) (flush_out t)
  have hX' : outOk m c (stepAfter t) X := Pipeline.Dat.toRRel_leaves (data m c) (fgt := isRel) (Rl := relOf m c) rfl hX
  have hX'' := hX' (stepOf t) rfl
  have hm := hmem (ix3 0 i ⟨J.val % 1024, Nat.mod_lt _ (by decide)⟩)
  rw [hX''] at hm
  have hv := outAt_apply m c q k hq hk t i ⟨J.val % 1024, Nat.mod_lt _ (by decide)⟩
  have eb : bat t = b := Fin.ext (by have := J.isLt; show (b.val * 4 + J.val / 1024) / 4 = b.val; omega)
  have eJ : colAt t ⟨J.val % 1024, Nat.mod_lt _ (by decide)⟩ = J :=
    Fin.ext (by have := J.isLt; show (b.val * 4 + J.val / 1024) % 4 * 1024 + J.val % 1024 = J.val; omega)
  have et : turn ⟨J.val % 1024, Nat.mod_lt _ (by decide)⟩ = ⟨J.val % 256, Nat.mod_lt _ (by decide)⟩ :=
    Fin.ext (by show J.val % 1024 % 256 = J.val % 256; omega)
  rw [eb, eJ, et] at hv
  rw [← hv]
  have hidx := (idx_prev t).2
  have hA : t.val / 4 + 0 = b.val := congrArg Fin.val eb
  have hB : t.val % 4 * 1024 + J.val % 1024 = J.val := congrArg Fin.val eJ
  have ee : (((cfg0.win 11).blk (stepAfter t)).view.emb (ix3 0 i ⟨J.val % 1024, Nat.mod_lt _ (by decide)⟩)) = (ix3 b i J : (⟨3, ![32, 256, 4096]⟩ : Shape).Idx) := by
    blk_ext [hidx]
  have hm' := (congrArg (r.2.mem ((c.tc : Thread nD τ).loc main_v69)) ee).symm.trans hm
  exact hm'

end Cert.Mine
-- ==== Proof.Ref1.lean ====
/- The reference up to the correlations: at every lag, the product sum of the queries turned by the lag with the keys. -/
module

public import proofs.«01_k».proof.Proof.Tables
public import proofs.«01_k».proof.Proof.Select
public import proofs.«01_k».proof.Proof.Gen.ReferenceIdeal.Read
public import Idealize.ShloMosaic.Lib.Pointwise

@[expose] public section

noncomputable section

namespace Cert.Mine

open Cert.ReferenceIdeal Cert.ReferenceIdeal.Gen Cert.ReferenceIdeal.Read
open Idealize.ShloMosaic

/-- Channel `d` of head `h`. -/
def chan (h : Fin 16) (d : Fin 256) : Fin 4096 := ⟨h.val * 256 + d.val, by omega⟩

theorem ref_v (x : S32x256x4096.Idx → EReal) (b : Fin 32) (h : Fin 16) (t d : Fin 256) :
    val_main_v1 (F := Ideal) x (ix4 b h t d) = col x b (chan h d) t := by
  pointwise [val_main_v1, val_main_v0]
  rfl

theorem ref_q (x : S32x256x4096.Idx → EReal) (b : Fin 32) (h : Fin 16) (t d : Fin 256) :
    val_main_v3 (F := Ideal) x (ix4 b h t d) = col x b (chan h d) t := ref_v x b h t d

theorem ref_k (x : S32x256x4096.Idx → EReal) (b : Fin 32) (h : Fin 16) (t d : Fin 256) :
    val_main_v5 (F := Ideal) x (ix4 b h t d) = col x b (chan h d) t := ref_v x b h t d

/-- The reference's angle of row `i` and column `j`: `i * j` 256ths of a turn. -/
theorem ref_angle (i j : Fin 256) :
    Ideal.div
        (Ideal.ofBits FTy.f32 1073741824#32 * Ideal.acos (Ideal.ofBits FTy.f32 3212836864#32) *
          FloatOps.sitofp (F := Ideal) FTy.f32 (IntOp.muli (BitVec.ofNat 32 i.val) (BitVec.ofNat 32 j.val)))
        (Ideal.ofBits FTy.f32 1132462080#32)
      = ((2 * Real.pi * (((i.val * j.val : ℕ) : ℤ) : ℝ) / 256 : ℝ) : EReal) := by
  have hb : i.val * j.val < 65536 := by nlinarith [i.isLt, j.isLt]
  rw [full_turn, word_256, show IntOp.muli (BitVec.ofNat 32 i.val) (BitVec.ofNat 32 j.val) = BitVec.ofNat 32 (i.val * j.val) by
      unfold IntOp.muli; exact Eq.symm (BitVec.ofNat_mul _ _),
    show FloatOps.sitofp (F := Ideal) FTy.f32 (BitVec.ofNat 32 (i.val * j.val)) = (((BitVec.ofNat 32 (i.val * j.val)).toInt : ℝ) : EReal) from rfl,
    small_toInt _ (by omega), Ideal.div_coe (by norm_num), ← EReal.coe_mul, ← EReal.coe_mul]
  congr 1; ring

theorem ref_cos (i j : Fin 256) : val_main_v16 (F := Ideal) (ix2 i j) = ((cosT ((i.val * j.val : ℕ) : ℤ) : ℝ) : EReal) := by
  pointwise [val_main_v16, val_main_v15, val_main_v14, val_main_v13, val_main_v12, val_main_v11, val_main_v10, val_main_v9,
    val_main_v8, val_main_v7, val_main_v6, val_main_cst, val_main_cst_0, val_main_cst_1]
  rw [ref_angle, Ideal.cos_coe]; rfl

theorem ref_sin (i j : Fin 256) : val_main_v17 (F := Ideal) (ix2 i j) = ((sinT ((i.val * j.val : ℕ) : ℤ) : ℝ) : EReal) := by
  pointwise [val_main_v17, val_main_v15, val_main_v14, val_main_v13, val_main_v12, val_main_v11, val_main_v10, val_main_v9,
    val_main_v8, val_main_v7, val_main_v6, val_main_cst, val_main_cst_0, val_main_cst_1]
  rw [ref_angle, Ideal.sin_coe]; rfl

section
variable (x : S32x256x4096.Idx → EReal) (q : S32x256x4096.Idx → ℝ) (hq : ∀ i, x i = (q i : EReal))
include hq

theorem col_coe (b : Fin 32) (j : Fin 4096) (t : Fin 256) : col x b j t = ((col q b j t : ℝ) : EReal) := hq _

/-- The real part of a query's spectrum. -/
theorem ref_qre (b : Fin 32) (h : Fin 16) (f d : Fin 256) :
    val_main_v19 (F := Ideal) x (ix4 b h f d) = ((cPart (col q b (chan h d)) f.val : ℝ) : EReal) := by
  pointwise [val_main_v19, val_main_v18]
  simp only [ref_q, ref_cos, col_coe x q hq, ← EReal.coe_mul, ← coe_sum]
  exact congrArg Real.toEReal (Finset.sum_congr rfl fun t _ => mul_comm _ _)

/-- The imaginary part of a query's spectrum. -/
theorem ref_qim (b : Fin 32) (h : Fin 16) (f d : Fin 256) :
    val_main_v22 (F := Ideal) x (ix4 b h f d) = ((-sPart (col q b (chan h d)) f.val : ℝ) : EReal) := by
  pointwise [val_main_v22, val_main_v21, val_main_v20]
  simp only [ref_q, ref_sin, col_coe x q hq, ← EReal.coe_mul, ← coe_sum, ← EReal.coe_neg]
  exact congrArg (fun r : ℝ => ((-r : ℝ) : EReal)) (Finset.sum_congr rfl fun t _ => mul_comm _ _)

/-- The real part of a key's spectrum. -/
theorem ref_kre (b : Fin 32) (h : Fin 16) (f d : Fin 256) :
    val_main_v24 (F := Ideal) x (ix4 b h f d) = ((cPart (col q b (chan h d)) f.val : ℝ) : EReal) := ref_qre x q hq b h f d

/-- The imaginary part of a key's spectrum. -/
theorem ref_kim (b : Fin 32) (h : Fin 16) (f d : Fin 256) :
    val_main_v27 (F := Ideal) x (ix4 b h f d) = ((-sPart (col q b (chan h d)) f.val : ℝ) : EReal) := ref_qim x q hq b h f d

end

section
variable (x0 x1 : S32x256x4096.Idx → EReal) (q k : S32x256x4096.Idx → ℝ) (hq : ∀ i, x0 i = (q i : EReal)) (hk : ∀ i, x1 i = (k i : EReal))
include hq hk

/-- The reference's correlations, by channel and lag. -/
theorem ref_corr (b : Fin 32) (h : Fin 16) (d l : Fin 256) :
    val_main_v41 (F := Ideal) x0 x1 (ix4 b h d l) = ((corr (col q b (chan h d)) (col k b (chan h d)) l : ℝ) : EReal) := by
  pointwise [val_main_v41, val_main_v40, val_main_v39, val_main_v38, val_main_v37, val_main_v36, val_main_v35, val_main_v34, val_main_cst_2,
    val_main_v33, val_main_v32, val_main_v31, val_main_v30, val_main_v29, val_main_v28]
  simp only [ref_qre x0 q hq, ref_qim x0 q hq, ref_kre x1 k hk, ref_kim x1 k hk, ref_cos, ref_sin, word_256, ← EReal.coe_mul, ← EReal.coe_add,
    ← EReal.coe_sub, ← coe_sum]
  rw [Ideal.div_coe (by norm_num), ← EReal.coe_mul]
  refine congrArg Real.toEReal ?_
  rw [← plain_corr]
  simp only [mul_comm (cosT _), mul_comm (sinT _)]

end

end Cert.Mine
-- ==== Proof.TopList.lean ====
/- The list of the greatest entries of one row, largest first: which positions it names, and that the host's top-k reads
   them, of a row of an array of rank three or four. -/
module

public import Idealize.ShloMosaic.Lib.Pointwise
public import Idealize.ShloMosaic.Lib.SortFacts

@[expose] public section

noncomputable section

namespace Cert.Mine

open Idealize.ShloMosaic

/-- The positions of a row's entries, the greatest entry's first. -/
def desc {n : ℕ} (f : Fin n → EReal) : Fin n → Fin n :=
  sortedFrom fun k k' => FloatOps.cmpfTotal (F := Ideal) (φ := .f32) .gt (f k) (f k') == 1#1

theorem gt_iff (x y : EReal) : (FloatOps.cmpfTotal (F := Ideal) (φ := .f32) .gt x y == 1#1) = decide (y < x) := by
  show (Ideal.cmp .ogt x y == 1#1) = _
  unfold Ideal.cmp
  by_cases h : y < x <;> simp [h]

theorem desc_bijective {n : ℕ} (f : Fin n → EReal) : Function.Bijective (desc f) :=
  ⟨sortedFrom_injective _, sortedFrom_surjective _⟩

theorem desc_antitone {n : ℕ} (f : Fin n → EReal) : Antitone (f ∘ desc f) := by
  intro i j hij
  rcases hij.eq_or_lt with rfl | h
  · exact le_rfl
  · have := sortedFrom_noInversion (fun k k' => FloatOps.cmpfTotal (F := Ideal) (φ := .f32) .gt (f k) (f k') == 1#1)
      (fun k k' => FloatOps.cmpfTotal (F := Ideal) (φ := .f32) .gt (f k) (f k') == 1#1)
      (fun a b h => by
        simp only [gt_iff, decide_eq_true_eq, decide_eq_false_iff_not] at h ⊢
        exact not_lt.mpr h.le)
      (fun a b h => h)
      (fun a b c h h' => by
        simp only [gt_iff, decide_eq_false_iff_not, not_lt] at h h' ⊢
        exact h.trans h') i j h
    rw [gt_iff, decide_eq_false_iff_not, not_lt] at this
    exact this

theorem along4 {n0 n1 n2 n3 : ℕ} (a : Fin n0) (b : Fin n1) (c : Fin n2) (d k : Fin n3) :
    Shape.Idx.along (s := ⟨4, ![n0, n1, n2, n3]⟩) (ix4 a b c d) 3 k = ix4 a b c k := by
  funext i; unfold Shape.Idx.along; fin_cases i <;> rfl

theorem along3 {n0 n1 n2 : ℕ} (a : Fin n0) (b : Fin n1) (d k : Fin n2) :
    Shape.Idx.along (s := ⟨3, ![n0, n1, n2]⟩) (ix3 a b d) 2 k = ix3 a b k := by
  funext i; unfold Shape.Idx.along; fin_cases i <;> rfl

section
variable {n0 n1 n2 n3 n : ℕ}

theorem slice4 (hk : n ≤ n3) (a : Fin n0) (b : Fin n1) (c : Fin n2) (k : Fin n) (i : Fin 4) :
    ((ix4 a b c k : (⟨4, ![n0, n1, n2, n]⟩ : Shape).Idx) i).val < ![n0, n1, n2, n3] i := by
  fin_cases i
  · exact a.isLt
  · exact b.isLt
  · exact c.isLt
  · exact lt_of_lt_of_le k.isLt hk

theorem slice3 (hk : n ≤ n2) (a : Fin n0) (b : Fin n1) (k : Fin n) (i : Fin 3) :
    ((ix3 a b k : (⟨3, ![n0, n1, n]⟩ : Shape).Idx) i).val < ![n0, n1, n2] i := by
  fin_cases i
  · exact a.isLt
  · exact b.isLt
  · exact lt_of_lt_of_le k.isLt hk

theorem top4_val (x : (⟨4, ![n0, n1, n2, n3]⟩ : Shape).Idx → EReal) (h : (⟨4, ![n0, n1, n2, n3]⟩ : Shape).Slices (fun _ => 0) ⟨4, ![n0, n1, n2, n]⟩)
    (a : Fin n0) (b : Fin n1) (c : Fin n2) (k : Fin n) (hk : n ≤ n3) :
    (Host.topK ⟨4, ![n0, n1, n2, n]⟩ 3 (FloatOps.cmpfTotal (F := Ideal) (φ := .f32) .gt) x h).1 (ix4 a b c k)
      = x (ix4 a b c (desc (fun l => x (ix4 a b c l)) (k.castLE hk))) := by
  unfold Host.topK
  pointwise
  unfold Host.sort2
  rw [dif_pos (show 3 < 4 by decide)]
  have e : (Shape.Idx.norm fun i => ⟨((ix4 a b c k) i).val, slice4 hk a b c k i⟩ : (⟨4, ![n0, n1, n2, n3]⟩ : Shape).Idx) = ix4 a b c (k.castLE hk) := by
    funext i; fin_cases i <;> rfl
  have e' : (fun l => x (Shape.Idx.along (s := ⟨4, ![n0, n1, n2, n3]⟩) (ix4 a b c (k.castLE hk)) 3 l)) = fun l => x (ix4 a b c l) :=
    funext fun l => congrArg x (along4 a b c (k.castLE hk) l)
  refine Eq.trans (b := x (Shape.Idx.along (s := ⟨4, ![n0, n1, n2, n3]⟩) (ix4 a b c (k.castLE hk)) 3
    (desc (fun l => x (Shape.Idx.along (s := ⟨4, ![n0, n1, n2, n3]⟩) (ix4 a b c (k.castLE hk)) 3 l)) (k.castLE hk)))) ?_ ?_
  · rw [← e]; rfl
  · rw [e']; exact congrArg x (along4 a b c _ _)

theorem top4_pos (x : (⟨4, ![n0, n1, n2, n3]⟩ : Shape).Idx → EReal) (h : (⟨4, ![n0, n1, n2, n3]⟩ : Shape).Slices (fun _ => 0) ⟨4, ![n0, n1, n2, n]⟩)
    (a : Fin n0) (b : Fin n1) (c : Fin n2) (k : Fin n) (hk : n ≤ n3) :
    (Host.topK ⟨4, ![n0, n1, n2, n]⟩ 3 (FloatOps.cmpfTotal (F := Ideal) (φ := .f32) .gt) x h).2 (ix4 a b c k)
      = BitVec.ofNat 32 (desc (fun l => x (ix4 a b c l)) (k.castLE hk)).val := by
  unfold Host.topK
  pointwise
  unfold Host.sort2
  rw [dif_pos (show 3 < 4 by decide)]
  have e : (Shape.Idx.norm fun i => ⟨((ix4 a b c k) i).val, slice4 hk a b c k i⟩ : (⟨4, ![n0, n1, n2, n3]⟩ : Shape).Idx) = ix4 a b c (k.castLE hk) := by
    funext i; fin_cases i <;> rfl
  have e' : (fun l => x (Shape.Idx.along (s := ⟨4, ![n0, n1, n2, n3]⟩) (ix4 a b c (k.castLE hk)) 3 l)) = fun l => x (ix4 a b c l) :=
    funext fun l => congrArg x (along4 a b c (k.castLE hk) l)
  refine Eq.trans (b := BitVec.ofNat 32 ((Shape.Idx.along (s := ⟨4, ![n0, n1, n2, n3]⟩) (ix4 a b c (k.castLE hk)) 3
    (desc (fun l => x (Shape.Idx.along (s := ⟨4, ![n0, n1, n2, n3]⟩) (ix4 a b c (k.castLE hk)) 3 l)) (k.castLE hk))) 3).val) ?_ ?_
  · rw [← e]; rfl
  · rw [e']; rfl

theorem top3_val (x : (⟨3, ![n0, n1, n2]⟩ : Shape).Idx → EReal) (h : (⟨3, ![n0, n1, n2]⟩ : Shape).Slices (fun _ => 0) ⟨3, ![n0, n1, n]⟩)
    (a : Fin n0) (b : Fin n1) (k : Fin n) (hk : n ≤ n2) :
    (Host.topK ⟨3, ![n0, n1, n]⟩ 2 (FloatOps.cmpfTotal (F := Ideal) (φ := .f32) .gt) x h).1 (ix3 a b k)
      = x (ix3 a b (desc (fun l => x (ix3 a b l)) (k.castLE hk))) := by
  unfold Host.topK
  pointwise
  unfold Host.sort2
  rw [dif_pos (show 2 < 3 by decide)]
  have e : (Shape.Idx.norm fun i => ⟨((ix3 a b k) i).val, slice3 hk a b k i⟩ : (⟨3, ![n0, n1, n2]⟩ : Shape).Idx) = ix3 a b (k.castLE hk) := by
    funext i; fin_cases i <;> rfl
  have e' : (fun l => x (Shape.Idx.along (s := ⟨3, ![n0, n1, n2]⟩) (ix3 a b (k.castLE hk)) 2 l)) = fun l => x (ix3 a b l) :=
    funext fun l => congrArg x (along3 a b (k.castLE hk) l)
  refine Eq.trans (b := x (Shape.Idx.along (s := ⟨3, ![n0, n1, n2]⟩) (ix3 a b (k.castLE hk)) 2
    (desc (fun l => x (Shape.Idx.along (s := ⟨3, ![n0, n1, n2]⟩) (ix3 a b (k.castLE hk)) 2 l)) (k.castLE hk)))) ?_ ?_
  · rw [← e]; rfl
  · rw [e']; exact congrArg x (along3 a b _ _)
end

end Cert.Mine
-- ==== Proof.Gather.lean ====
/- The two gathers, read at an index: the reference's along the time axis, batched over the other three, and the
   precondition's of whole time steps. -/
module

public import proofs.«01_k».proof.Proof.Gen.ReferenceIdeal.Read
public import proofs.«01_k».proof.Proof.Gen.Pre_lags_distinct
public import Idealize.ShloMosaic.Lib.Pointwise

@[expose] public section

noncomputable section

namespace Cert.Mine

open Idealize.ShloMosaic

/-- The reference's gather. -/
abbrev gT := Cert.ReferenceIdeal.gather_S32x16x512x256_S32x16x11x256x1_S32x16x11x256_n_2_013_013_2_4_1111

/-- The reference takes, at head `h`, lag number `k` and channel `d`, the time step its index names. -/
theorem gather_time (x : (⟨4, ![32, 16, 512, 256]⟩ : Shape).Idx → EReal) (idx : IVec (⟨5, ![32, 16, 11, 256, 1]⟩ : Shape) 32)
    (b : Fin 32) (h : Fin 16) (k : Fin 11) (d : Fin 256) (n : ℕ) (hn : n < 512) (e : (idx (ix5 b h k d 0)).toInt = n) :
    Host.gather gT x idx (ix4 b h k d) = x (ix4 b h ⟨n, hn⟩ d) := by
  unfold Host.gather
  congr 1
  funext a
  refine Fin.ext ?_
  show GatherDims.start gT (ix4 b h k d) idx a + GatherDims.batchCoord gT (ix4 b h k d) a
    + GatherDims.offCoord gT (ix4 b h k d) a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  have batch : ∀ a : Fin 4, a ∈ ([0, 1, 3] : List (Fin 4)) →
      GatherDims.start gT (ix4 b h k d) idx a + GatherDims.batchCoord gT (ix4 b h k d) a
        + GatherDims.offCoord gT (ix4 b h k d) a = GatherDims.batchCoord gT (ix4 b h k d) a := fun a ha => by
    rw [GatherDims.start_batching _ _ _ _ ha,
      GatherDims.offCoord_eq_zero _ _ _ (fun h => ((GatherDims.mem_sKept _ _).mp h).2 ha)]
    simp only [Nat.zero_add, Nat.add_zero]
  rcases ha with rfl | rfl | rfl | rfl
  · refine (batch 0 (by decide)).trans ?_
    unfold GatherDims.batchCoord
    rw [dif_pos (show (0 : Fin 4) ∈ gT.operandBatchingDims from (show (0 : Fin 4) ∈ ([0, 1, 3] : List (Fin 4)) by decide))]
    rfl
  · refine (batch 1 (by decide)).trans ?_
    unfold GatherDims.batchCoord
    rw [dif_pos (show (1 : Fin 4) ∈ gT.operandBatchingDims from (show (1 : Fin 4) ∈ ([0, 1, 3] : List (Fin 4)) by decide))]
    rfl
  · rw [GatherDims.batchCoord_eq_zero _ _ _ (show (2 : Fin 4) ∉ ([0, 1, 3] : List (Fin 4)) by decide),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ gT.startIndexMap from List.mem_singleton.mpr rfl)]
    have hsi : GatherDims.siIdx gT (ix4 b h k d) ⟨List.idxOf (2 : Fin 4) ([2] : List (Fin 4)),
        List.idxOf_lt_length_iff.2 (List.mem_singleton.mpr rfl)⟩ = ix5 b h k d 0 := by
      funext b; refine Fin.ext ?_
      match b with
      | ⟨0, _⟩ => rfl
      | ⟨1, _⟩ => rfl
      | ⟨2, _⟩ => rfl
      | ⟨3, _⟩ => rfl
      | ⟨4, _⟩ => rfl
    refine (congrArg (fun i => min (idx i).toInt.toNat 511) hsi).trans ?_
    show min (idx (ix5 b h k d 0)).toInt.toNat 511 = n
    rw [e]; omega
  · refine (batch 3 (by decide)).trans ?_
    unfold GatherDims.batchCoord
    rw [dif_pos (show (3 : Fin 4) ∈ gT.operandBatchingDims from (show (3 : Fin 4) ∈ ([0, 1, 3] : List (Fin 4)) by decide))]
    rfl

/-- The precondition's gather. -/
abbrev gR := Cert.Pre_lags_distinct.gather_S32x256x4096_S64x256x1_S32x64x256x4096_03_1_n_n_1_2_3214096

/-- The precondition takes the whole time step its index names. -/
theorem gather_rows (x : (⟨3, ![32, 256, 4096]⟩ : Shape).Idx → EReal) (idx : IVec (⟨3, ![64, 256, 1]⟩ : Shape) 32)
    (b : Fin 32) (t : Fin 64) (l : Fin 256) (j : Fin 4096) (n : ℕ) (hn : n < 256) (e : (idx (ix3 t l 0)).toInt = n) :
    Host.gather gR x idx (ix4 b t l j) = x (ix3 b ⟨n, hn⟩ j) := by
  unfold Host.gather
  congr 1
  funext a
  refine Fin.ext ?_
  show GatherDims.start gR (ix4 b t l j) idx a + GatherDims.batchCoord gR (ix4 b t l j) a
    + GatherDims.offCoord gR (ix4 b t l j) a = _
  rw [GatherDims.batchCoord_eq_zero _ _ _ (show a ∉ ([] : List (Fin 3)) from List.not_mem_nil), Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  have whole : ∀ a : Fin 3, a ∉ ([1] : List (Fin 3)) → GatherDims.start gR (ix4 b t l j) idx a
      + GatherDims.offCoord gR (ix4 b t l j) a = GatherDims.offCoord gR (ix4 b t l j) a := fun a ha => by
    unfold GatherDims.start
    rw [dif_neg (show a ∉ gR.startIndexMap from ha), Nat.zero_add]
  rcases ha with rfl | rfl | rfl
  · refine (whole 0 (by decide)).trans ?_
    unfold GatherDims.offCoord
    rw [dif_pos ((GatherDims.mem_sKept _ _).mpr ⟨show (0 : Fin 3) ∉ ([1] : List (Fin 3)) by decide, List.not_mem_nil⟩)]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ gR.startIndexMap from List.mem_singleton.mpr rfl)]
    have hsi : GatherDims.siIdx gR (ix4 b t l j) ⟨List.idxOf (1 : Fin 3) ([1] : List (Fin 3)),
        List.idxOf_lt_length_iff.2 (List.mem_singleton.mpr rfl)⟩ = ix3 t l 0 := by
      funext b; refine Fin.ext ?_
      match b with
      | ⟨0, _⟩ => rfl
      | ⟨1, _⟩ => rfl
      | ⟨2, _⟩ => rfl
    refine (congrArg (fun i => min (idx i).toInt.toNat 255) hsi).trans ?_
    show min (idx (ix3 t l 0)).toInt.toNat 255 = n
    rw [e]; omega
  · refine (whole 2 (by decide)).trans ?_
    unfold GatherDims.offCoord
    rw [dif_pos ((GatherDims.mem_sKept _ _).mpr ⟨show (2 : Fin 3) ∉ ([1] : List (Fin 3)) by decide, List.not_mem_nil⟩)]
    rfl

end Cert.Mine
-- ==== Proof.Ref2.lean ====
/- The reference from the correlations on: the eleven greatest lags of a channel, their softmax, and the values at those
   lags, summed. -/
module

public import proofs.«01_k».proof.Proof.Ref1
public import proofs.«01_k».proof.Proof.TopList
public import proofs.«01_k».proof.Proof.Gather
public import proofs.«01_k».proof.Proof.KVal

@[expose] public section

noncomputable section

namespace Cert.Mine

open Cert.ReferenceIdeal Cert.ReferenceIdeal.Gen Cert.ReferenceIdeal.Read
open Idealize.ShloMosaic

/-- The lags of a row of correlations, the greatest correlation's first. -/
def lags (C : Fin 256 → ℝ) : Fin 256 → Fin 256 := desc fun l => ((C l : ℝ) : EReal)

theorem lags_bijective (C : Fin 256 → ℝ) : Function.Bijective (lags C) := desc_bijective _

theorem lags_antitone (C : Fin 256 → ℝ) : Antitone (C ∘ lags C) := fun i j h =>
  EReal.coe_le_coe_iff.mp (desc_antitone (fun l => ((C l : ℝ) : EReal)) h)

/-- Lag number `k` of the eleven. -/
abbrev lag (C : Fin 256 → ℝ) (k : Fin 11) : Fin 256 := lags C (k.castLE (by decide))

theorem lag_zero (C : Fin 256 → ℝ) : lag C 0 = lags C 0 :=
  congrArg (lags C) (show ((0 : Fin 11).castLE (by decide) : Fin 256) = 0 from rfl)

/-- The host's maximum over the eleven, from minus infinity. -/
theorem reduce_max (y : S32x16x11x256.Idx → EReal) (b : Fin 32) (h : Fin 16) (d : Fin 256) :
    Host.reduce (FloatOps.maximumf (F := Ideal) (φ := .f32)) y (constant (F := Ideal) S_ .f32 0xFF800000#32)
      reducesTo_S32x16x11x256_S32x16x256_d2 h_S_ (ix3 b h d) = Finset.fold max ⊥ (fun k => y (ix4 b h k d)) Finset.univ := by
  have hr : S32x16x11x256.Reduces [2] S32x16x256 := by decide
  rw [Host.reduce_eq_fold_single (FloatOps.maximumf (F := Ideal) (φ := .f32)) y _ reducesTo_S32x16x11x256_S32x16x256_d2 hr h_S_]
  have hf : (y ∘ hr.lift (ix3 b h d)) = fun k : Fin 11 => y (ix4 b h k d) := funext fun k => congrArg y (by
    funext c; apply Fin.ext
    fin_cases c <;> rfl)
  refine (congrArg (fun f => Finset.fold max (Ideal.ofBits .f32 0xFF800000#32) f (Finset.univ : Finset (Fin 11))) hf).trans ?_
  rw [neg_inf_word]

/-- The host's conjunction over an axis of one. -/
theorem reduce_and (y : S32x16x11x256x1.Idx → BitVec 1) (b : Fin 32) (h : Fin 16) (k : Fin 11) (d : Fin 256) (e : y (ix5 b h k d 0) = 1#1) :
    Host.reduce IntOp.andi y (constantI S_ 1 1#1) reducesTo_S32x16x11x256x1_S32x16x11x256_d4 h_S_ (ix4 b h k d) = 1#1 := by
  have hr : S32x16x11x256x1.Reduces [4] S32x16x11x256 := by decide
  rw [Host.reduce_eq_fold_single IntOp.andi y _ reducesTo_S32x16x11x256x1_S32x16x11x256_d4 hr h_S_]
  have hf : (y ∘ hr.lift (ix4 b h k d)) = fun _ : Fin 1 => 1#1 := funext fun i => (congrArg y (by
    funext c; apply Fin.ext
    fin_cases c <;> first | rfl | exact Nat.lt_one_iff.mp i.isLt)).trans e
  refine (congrArg (fun f => Finset.fold IntOp.andi 1#1 f (Finset.univ : Finset (Fin 1))) hf).trans ?_
  decide

/-- The reference's index word: a lag plus a channel's number, at most 255. -/
theorem word_capped (l d : Fin 256) :
    IntOp.minsi (IntOp.addi (BitVec.ofNat 32 l.val) (BitVec.ofNat 32 d.val)) 255#32 = BitVec.ofNat 32 (capped l d).val := by
  have e : IntOp.addi (BitVec.ofNat 32 l.val) (BitVec.ofNat 32 d.val) = BitVec.ofNat 32 (l.val + d.val) := by
    unfold IntOp.addi; exact Eq.symm (BitVec.ofNat_add _ _)
  rw [e]
  unfold IntOp.minsi capped
  simp only [BitVec.sle, BitVec.slt, small_toInt (l.val + d.val) (by omega)]
  by_cases h : l.val + d.val ≤ 255
  · rw [Nat.min_eq_left h]
    split_ifs with g
    · rfl
    · rw [decide_eq_true_eq, show (BitVec.toInt 255#32) = 255 from rfl] at g
      rw [show l.val + d.val = 255 by omega]
  · rw [Nat.min_eq_right (by omega)]
    simp [h]
    try omega

/-- An index that is not negative is not wrapped. -/
theorem word_kept (n : ℕ) (hn : n < 512) (y : BitVec 32) :
    Scalar.select (IntOp.cmpi CmpIPredicate.slt (BitVec.ofNat 32 n) 0#32) y (BitVec.ofNat 32 n) = BitVec.ofNat 32 n := by
  unfold Scalar.select IntOp.cmpi
  simp only [BitVec.slt, small_toInt n (by omega)]
  rw [if_neg]
  rw [show (BitVec.toInt 0#32) = 0 from rfl, decide_eq_false (by omega)]
  decide

/-- An index below 512 is in range. -/
theorem word_in_range (n : ℕ) (hn : n < 512) :
    IntOp.andi (IntOp.cmpi CmpIPredicate.sge (BitVec.ofNat 32 n) 0#32) (IntOp.cmpi CmpIPredicate.sle (BitVec.ofNat 32 n) 511#32) = 1#1 := by
  unfold IntOp.andi IntOp.cmpi
  simp only [BitVec.sle, small_toInt n (by omega)]
  have : n ≤ 511 := by omega
  simp [this]

theorem ref_fold (x0 x1 : S32x256x4096.Idx → EReal) (b : Fin 32) (h : Fin 16) (d : Fin 256) :
    val_main_v44 (F := Ideal) x0 x1 (ix3 b h d) = Finset.fold max ⊥ (fun k => val_main_v42 (F := Ideal) x0 x1 (ix4 b h k d)) Finset.univ := by
  unfold val_main_v44 val_main_cst_3
  generalize val_main_v42 (F := Ideal) x0 x1 = y
  exact reduce_max y b h d

section
variable (x0 x1 : S32x256x4096.Idx → EReal) (b : Fin 32) (h : Fin 16) (d : Fin 256) (C : Fin 256 → ℝ)
  (hC : ∀ l, val_main_v41 (F := Ideal) x0 x1 (ix4 b h d l) = ((C l : ℝ) : EReal))
include hC

theorem ref_top (k : Fin 11) : val_main_v42 (F := Ideal) x0 x1 (ix4 b h k d) = ((C (lag C k) : ℝ) : EReal) := by
  pointwise [val_main_v42]
  unfold val_main_values
  refine (top4_val _ _ b h d k (by decide)).trans ?_
  rw [show (fun l => val_main_v41 (F := Ideal) x0 x1 (ix4 b h d l)) = fun l => ((C l : ℝ) : EReal) from funext hC]
  exact hC _

theorem ref_pos (k : Fin 11) : val_main_v43 (F := Ideal) x0 x1 (ix4 b h k d) = BitVec.ofNat 32 (lag C k).val := by
  pointwise [val_main_v43]
  unfold val_main_indices
  refine (top4_pos _ _ b h d k (by decide)).trans ?_
  rw [show (fun l => val_main_v41 (F := Ideal) x0 x1 (ix4 b h d l)) = fun l => ((C l : ℝ) : EReal) from funext hC]
  rfl

theorem ref_max : val_main_v46 (F := Ideal) x0 x1 (ix3 b h d) = ((C (lags C 0) : ℝ) : EReal) := by
  pointwise [val_main_v46, val_main_v45, val_main_cst_4]
  rw [ref_fold, neg_inf_word, max_eq_right bot_le]
  simp only [ref_top x0 x1 b h d C hC]
  show Finset.univ.sup (fun k : Fin 11 => ((C (lag C k) : ℝ) : EReal)) = _
  apply le_antisymm
  · exact Finset.sup_le fun k _ => EReal.coe_le_coe_iff.mpr (lags_antitone C (Fin.zero_le _))
  · rw [← lag_zero C]
    exact Finset.le_sup (f := fun k : Fin 11 => ((C (lag C k) : ℝ) : EReal)) (Finset.mem_univ 0)

theorem ref_exp (k : Fin 11) : val_main_v50 (F := Ideal) x0 x1 (ix4 b h k d) = ((Real.exp (C (lag C k) - C (lags C 0)) : ℝ) : EReal) := by
  pointwise [val_main_v50, val_main_v49, val_main_v48, val_main_v47]
  rw [ref_top x0 x1 b h d C hC, ref_max x0 x1 b h d C hC, ← EReal.coe_sub, Ideal.exp_coe]

theorem ref_soft (k : Fin 11) : val_main_v54 (F := Ideal) x0 x1 (ix4 b h k d)
    = Ideal.div ((Real.exp (C (lag C k) - C (lags C 0)) : ℝ) : EReal)
        ((∑ k' : Fin 11, Real.exp (C (lag C k') - C (lags C 0)) : ℝ) : EReal) := by
  pointwise [val_main_v54, val_main_v53, val_main_v52, val_main_v51, val_main_cst_5]
  simp only [ref_exp x0 x1 b h d C hC, ← coe_sum]

theorem ref_index (k : Fin 11) : val_main_call0_v4 (F := Ideal) x0 x1 (ix4 b h k d) = BitVec.ofNat 32 (capped (lag C k) d).val := by
  pointwise [val_main_call0_v4, val_main_call0_v3, val_main_call0_v1, val_main_v61, val_main_v60, val_main_v59, val_main_v58, val_main_v57, val_main_v56,
    val_main_c, val_main_call0_v0, val_main_call0_c, val_main_call0_v2, val_main_call0_c_0]
  rw [ref_pos x0 x1 b h d C hC, word_capped, word_kept _ (by omega)]

theorem ref_mask (k : Fin 11) : val_main_call0_v12 (F := Ideal) x0 x1 (ix4 b h k d) = 1#1 := by
  unfold val_main_call0_v12 val_main_call0_c_3
  refine reduce_and _ b h k d ?_
  pointwise [val_main_call0_v11, val_main_call0_v10, val_main_call0_v9, val_main_call0_v8, val_main_call0_v7, val_main_call0_v6,
    val_main_call0_v5, val_main_call0_c_1, val_main_call0_c_2]
  rw [ref_index x0 x1 b h d C hC, word_in_range _ (by omega)]

theorem ref_take (x2 : S32x256x4096.Idx → EReal) (k : Fin 11) :
    val_main_v62 (F := Ideal) x0 x1 x2 (ix4 b h k d) = col x2 b (chan h d) (capped (lag C k) d) := by
  pointwise [val_main_v62]
  rw [ref_mask x0 x1 b h d C hC]
  refine Eq.trans (b := val_main_call0_v13 (F := Ideal) x0 x1 x2 (ix4 b h k d)) rfl ?_
  unfold val_main_call0_v13
  have e : (val_main_call0_v5 (F := Ideal) x0 x1 (ix5 b h k d 0)).toInt = ((capped (lag C k) d).val : ℤ) := by
    pointwise [val_main_call0_v5]
    rw [ref_index x0 x1 b h d C hC, small_toInt _ (by omega)]
  refine (gather_time _ _ b h k d _ (by omega) e).trans ?_
  pointwise [val_main_v55]
  rw [ref_v]

/-- The reference's result at a channel, at every time step. -/
theorem ref_result (x2 : S32x256x4096.Idx → EReal) (i : Fin 256) :
    val_main_v68 (F := Ideal) x0 x1 x2 (ix3 b i (chan h d)) = 512 * ∑ k : Fin 11,
          Ideal.div ((Real.exp (C (lag C k) - C (lags C 0)) : ℝ) : EReal)
            ((∑ k' : Fin 11, Real.exp (C (lag C k') - C (lags C 0)) : ℝ) : EReal)
          * col x2 b (chan h d) (capped (lag C k) d) := by
  pointwise [val_main_v68, val_main_v67, val_main_v66, val_main_v65, val_main_v64, val_main_v63, val_main_cst_6, val_main_cst_7]
  have e1 : (⟨(chan h d).val / 256, by omega⟩ : Fin 16) = h := Fin.ext (by unfold chan; show (h.val * 256 + d.val) / 256 = h.val; omega)
  have e2 : (⟨(chan h d).val % 256, by omega⟩ : Fin 256) = d := Fin.ext (by unfold chan; show (h.val * 256 + d.val) % 256 = d.val; omega)
  simp only [e1, e2, ref_soft x0 x1 b h d C hC, ref_take x0 x1 b h d C hC]
  rw [word_512]

end

end Cert.Mine
-- ==== Proof.PreUse.lean ====
/- What the precondition says: the queries and keys are real numbers, and a channel's twelve greatest correlations are
   different. -/
module

public import proofs.«01_k».proof.Proof.Tables
public import proofs.«01_k».proof.Proof.Select
public import proofs.«01_k».proof.Proof.TopList
public import proofs.«01_k».proof.Proof.Gather
public import proofs.«01_k».proof.Proof.Gen.Pre_lags_distinct

@[expose] public section

noncomputable section

namespace Cert.Mine

open Cert.Pre_lags_distinct Cert.Pre_lags_distinct.Facts
open Idealize.ShloMosaic

/-- The time steps that the precondition reads of the queries: those from `o` on, turned by each lag. -/
def turned (o : BitVec 32) : IVec S64x256x1 32 :=
  andi (addi (addi (broadcastInDim S64x256x1 ![] bcast_S_S64x256x1 (constantI S_ 32 o)) (iotaInDim S64x256x1 32 0)) (iotaInDim S64x256x1 32 1))
    (broadcastInDim S64x256x1 ![] bcast_S_S64x256x1 (constantI S_ 32 255#32))

/-- A quarter of the correlations' sum. -/
def quarter (o : BitVec 32) (a0 : S32x256x4096.Idx → EReal) (y : S32x64x4096.Idx → EReal) : S32x4096x256.Idx → EReal :=
  Host.dotGeneral (F := Ideal) (φ₁ := .f32) (φ₂ := .f32) dot_S32x64x256x4096_S32x64x4096_S32x4096x256_1_1_2_n_03_02 none
    (Host.gather gR a0 (turned o)) y

/-- The precondition's correlations. -/
def preCorr (a0 a1 : S32x256x4096.Idx → EReal) : S32x4096x256.Idx → EReal :=
  addf (F := Ideal) (φ := .f32) (addf (F := Ideal) (φ := .f32) (addf (F := Ideal) (φ := .f32)
    (quarter 0#32 a0 (extractStridedSlice S32x64x4096 ![0, 0, 0] a1 slices_S32x256x4096_S32x64x4096_0_0_0))
    (quarter 64#32 a0 (extractStridedSlice S32x64x4096 ![0, 64, 0] a1 slices_S32x256x4096_S32x64x4096_0_64_0)))
    (quarter 128#32 a0 (extractStridedSlice S32x64x4096 ![0, 128, 0] a1 slices_S32x256x4096_S32x64x4096_0_128_0)))
    (quarter 192#32 a0 (extractStridedSlice S32x64x4096 ![0, 192, 0] a1 slices_S32x256x4096_S32x64x4096_0_192_0))

theorem turned_toInt (n : ℕ) (hn : n < 256) (t : Fin 64) (l : Fin 256) :
    (turned (BitVec.ofNat 32 n) (ix3 t l 0)).toInt = (((n + t.val + l.val) % 256 : ℕ) : ℤ) := by
  unfold turned
  pointwise
  have e : IntOp.addi (IntOp.addi (BitVec.ofNat 32 n) (BitVec.ofNat 32 t.val)) (BitVec.ofNat 32 l.val) = BitVec.ofNat 32 (n + t.val + l.val) := by
    unfold IntOp.addi; rw [BitVec.ofNat_add, BitVec.ofNat_add]
  have e' : IntOp.andi (BitVec.ofNat 32 (n + t.val + l.val)) 255#32 = BitVec.ofNat 32 ((n + t.val + l.val) % 256) := by
    unfold IntOp.andi
    apply BitVec.eq_of_toNat_eq
    rw [BitVec.toNat_and]
    simp only [BitVec.toNat_ofNat]
    rw [Nat.mod_eq_of_lt (show n + t.val + l.val < 2 ^ 32 by omega), Nat.mod_eq_of_lt (show (n + t.val + l.val) % 256 < 2 ^ 32 by omega),
      Nat.mod_eq_of_lt (show 255 < 2 ^ 32 by omega)]
    exact Nat.and_two_pow_sub_one_eq_mod (n + t.val + l.val) 8
  rw [e, e', small_toInt _ (by omega)]

/-- A sum over 256 numbers by its quarters. -/
theorem sum_quarters (g : ℕ → ℝ) : ∑ u : Fin 256, g u.val
    = ∑ t : Fin 64, g t.val + ∑ t : Fin 64, g (64 + t.val) + ∑ t : Fin 64, g (128 + t.val) + ∑ t : Fin 64, g (192 + t.val) := by
  rw [Fin.sum_univ_eq_sum_range g 256, Fin.sum_univ_eq_sum_range g 64, Fin.sum_univ_eq_sum_range (fun t => g (64 + t)) 64,
    Fin.sum_univ_eq_sum_range (fun t => g (128 + t)) 64, Fin.sum_univ_eq_sum_range (fun t => g (192 + t)) 64,
    show 256 = 192 + 64 from rfl, Finset.sum_range_add, show 192 = 128 + 64 from rfl, Finset.sum_range_add, show 128 = 64 + 64 from rfl,
    Finset.sum_range_add]

theorem quarter_apply (n : ℕ) (hn : n < 256) (a0 : S32x256x4096.Idx → EReal) (y : S32x64x4096.Idx → EReal) (b : Fin 32) (j : Fin 4096) (l : Fin 256) :
    quarter (BitVec.ofNat 32 n) a0 y (ix3 b j l) = ∑ t : Fin 64, a0 (ix3 b ⟨(n + t.val + l.val) % 256, by omega⟩ j) * y (ix3 b t j) := by
  unfold quarter
  pointwise
  refine Finset.sum_congr rfl fun t _ => congrArg (· * y (ix3 b t j)) ?_
  exact gather_rows _ _ b t l j _ (by omega) (turned_toInt n hn t l)

section
variable (a0 a1 : S32x256x4096.Idx → EReal) (q k : S32x256x4096.Idx → ℝ) (hq : ∀ i, a0 i = ((q i : ℝ) : EReal)) (hk : ∀ i, a1 i = ((k i : ℝ) : EReal))
include hq hk

/-- The precondition's correlations are the correlations. -/
theorem preCorr_apply (b : Fin 32) (j : Fin 4096) (l : Fin 256) :
    preCorr a0 a1 (ix3 b j l) = ((corr (col q b j) (col k b j) l : ℝ) : EReal) := by
  pointwise [preCorr]
  rw [quarter_apply 0 (by omega), quarter_apply 64 (by omega), quarter_apply 128 (by omega), quarter_apply 192 (by omega)]
  pointwise
  simp only [hq, hk, ← EReal.coe_mul, ← coe_sum, ← EReal.coe_add]
  refine congrArg Real.toEReal ?_
  have g := sum_quarters fun n => q (ix3 b ⟨(n + l.val) % 256, Nat.mod_lt _ (by omega)⟩ j) * k (ix3 b ⟨n % 256, Nat.mod_lt _ (by omega)⟩ j)
  have r : ∀ n (hn : n < 256), (⟨n % 256, Nat.mod_lt _ (by omega)⟩ : Fin 256) = ⟨n, hn⟩ := fun n hn => Fin.ext (Nat.mod_eq_of_lt hn)
  refine Eq.trans ?_ (g.symm.trans ?_)
  · refine congrArg₂ _ (congrArg₂ _ (congrArg₂ _ ?_ ?_) ?_) ?_ <;>
      exact Finset.sum_congr rfl fun t _ => congrArg (fun w : Fin 256 => q _ * k (ix3 b w j)) (r _ (by omega)).symm
  · unfold corr col
    exact Finset.sum_congr rfl fun u _ => congrArg₂ (fun v w : Fin 256 => q (ix3 b v j) * k (ix3 b w j)) (Fin.ext (Fin.val_add u l).symm) (r _ u.isLt)

end

section
variable (a0 a1 a2 : S32x256x4096.Idx → EReal)

/-- A one-bit word that is one comes from a true condition. -/
theorem bit_true {p : Bool} (h : BitVec.ofBool p = 1#1) : p = true := by
  cases p
  · exact absurd h (by decide)
  · rfl

/-- Positive infinity as a single-precision word. -/
theorem word_inf : Ideal.ofBits .f32 0x7F800000#32 = ⊤ := by
  simp [Ideal.ofBits, Ideal.ieee]

/-- A number whose absolute value lies below infinity is real. -/
theorem real_of_bounded (x : EReal) (h : Ideal.cmp .olt (max x (-x)) (Ideal.ofBits .f32 0x7F800000#32) = 1#1) : x = ((x.toReal : ℝ) : EReal) := by
  rw [word_inf] at h
  have h' : max x (-x) < ⊤ := of_decide_eq_true (bit_true h)
  refine (EReal.coe_toReal ?_ ?_).symm
  · rintro rfl; simp at h'
  · rintro rfl; simp at h'

/-- The precondition's first part: the queries are real numbers. -/
theorem pre_finite_q (h : (Cert.Pre_lags_distinct.fn (F := Ideal) a0 a1 a2).1 = fun _ => 1#1) (i : S32x256x4096.Idx) :
    a0 i = (((a0 i).toReal : ℝ) : EReal) :=
  real_of_bounded _ (congrFun h i)

/-- The precondition's second part: the keys are real numbers. -/
theorem pre_finite_k (h : (Cert.Pre_lags_distinct.fn (F := Ideal) a0 a1 a2).2.1 = fun _ => 1#1) (i : S32x256x4096.Idx) :
    a1 i = (((a1 i).toReal : ℝ) : EReal) :=
  real_of_bounded _ (congrFun h i)

/-- The precondition's third part: among the twelve greatest correlations each is less than the one before. -/
theorem pre_distinct (h : (Cert.Pre_lags_distinct.fn (F := Ideal) a0 a1 a2).2.2 = fun _ => 1#1) (b : Fin 32) (j : Fin 4096) (i : Fin 11) :
    preCorr a0 a1 (ix3 b j (desc (fun l => preCorr a0 a1 (ix3 b j l)) (i.succ.castLE (by decide))))
      < preCorr a0 a1 (ix3 b j (desc (fun l => preCorr a0 a1 (ix3 b j l)) (i.castSucc.castLE (by decide)))) := by
  have e : (Cert.Pre_lags_distinct.fn (F := Ideal) a0 a1 a2).2.2
    = cmpf (F := Ideal) (φ := .f32) .ogt (extractStridedSlice S32x4096x11 ![0, 0, 0] (Host.topK S32x4096x12 2 (FloatOps.cmpfTotal (F := Ideal) (φ := .f32) .gt) (preCorr a0 a1) sliceFits_S32x4096x256_S32x4096x12).1 slices_S32x4096x12_S32x4096x11_0_0_0)
      (extractStridedSlice S32x4096x11 ![0, 0, 1] (Host.topK S32x4096x12 2 (FloatOps.cmpfTotal (F := Ideal) (φ := .f32) .gt) (preCorr a0 a1) sliceFits_S32x4096x256_S32x4096x12).1 slices_S32x4096x12_S32x4096x11_0_0_1) := by
    unfold Cert.Pre_lags_distinct.fn Cert.Pre_lags_distinct.fn_part1 Cert.Pre_lags_distinct.fn_part2
    rfl
  rw [e] at h
  have h' := congrFun h (ix3 b j i)
  pointwise at h'
  have h' := of_decide_eq_true (bit_true h')
  rw [top3_val _ _ b j _ (by decide), top3_val _ _ b j _ (by decide)] at h'
  have e1 : ((⟨1 + i.val, by omega⟩ : Fin 12).castLE (by decide) : Fin 256) = i.succ.castLE (by decide) := Fin.ext (Nat.add_comm 1 i.val)
  rw [e1] at h'
  exact h'
end

end Cert.Mine
-- ==== Proof.Value.lean ====
/- The kernel's result is the reference's, wherever the precondition holds. -/
module

public import proofs.«01_k».proof.Proof.Blocks
public import proofs.«01_k».proof.Proof.Ref2
public import proofs.«01_k».proof.Proof.PreUse

@[expose] public section

noncomputable section

namespace Cert.Mine

open Idealize.ShloMosaic Idealize.ShloMosaic.TcCoe Idealize.SL.Sem

/-- Every column is a head's channel. -/
theorem chan_of (J : Fin 4096) :
    chan ⟨J.val / 256, by have := J.isLt; omega⟩ ⟨J.val % 256, Nat.mod_lt _ (by decide)⟩ = J :=
  Fin.ext (Nat.div_add_mod' J.val 256)

section
variable (a0 a1 a2 : (⟨3, ![32, 256, 4096]⟩ : Shape).Idx → EReal) (q k : (⟨3, ![32, 256, 4096]⟩ : Shape).Idx → ℝ)
  (hq : ∀ i, a0 i = ((q i : ℝ) : EReal)) (hk : ∀ i, a1 i = ((k i : ℝ) : EReal))
include hq hk

/-- The precondition, of the lags that the reference takes: the greatest twelve fall strictly. -/
theorem strict_of_pre (h : (Cert.Pre_lags_distinct.fn (F := Ideal) a0 a1 a2).2.2 = fun _ => 1#1) (b : Fin 32) (J : Fin 4096)
    (i j : Fin 256) (hij : i.val + 1 = j.val) (hi : i.val < 11) :
    corr (col q b J) (col k b J) (lags (corr (col q b J) (col k b J)) j)
      < corr (col q b J) (col k b J) (lags (corr (col q b J) (col k b J)) i) := by
  have h' := pre_distinct a0 a1 a2 h b J ⟨i.val, hi⟩
  have f : (fun l => preCorr a0 a1 (ix3 b J l)) = fun l => ((corr (col q b J) (col k b J) l : ℝ) : EReal) :=
    funext fun l => preCorr_apply a0 a1 q k hq hk b J l
  rw [f, preCorr_apply a0 a1 q k hq hk b J, preCorr_apply a0 a1 q k hq hk b J, EReal.coe_lt_coe_iff] at h'
  have ei : ((⟨i.val, hi⟩ : Fin 11).castSucc.castLE (by decide) : Fin 256) = i := Fin.ext rfl
  have ej : ((⟨i.val, hi⟩ : Fin 11).succ.castLE (by decide) : Fin 256) = j := Fin.ext hij
  rw [ei, ej] at h'
  exact h'

/-- A column's result: the selection by thresholds is the softmax over the greatest lags. -/
theorem column_eq (h : (Cert.Pre_lags_distinct.fn (F := Ideal) a0 a1 a2).2.2 = fun _ => 1#1) (b : Fin 32) (i : Fin 256) (J : Fin 4096) :
    outCol (col q b J) (col k b J) (col a2 b J) ⟨J.val % 256, Nat.mod_lt _ (by decide)⟩
      = Cert.ReferenceIdeal.Read.val_main_v68 (F := Ideal) a0 a1 a2 (ix3 b i J) := by
  have hr := ref_result a0 a1 b ⟨J.val / 256, by have := J.isLt; omega⟩ ⟨J.val % 256, Nat.mod_lt _ (by decide)⟩
    (corr (col q b (chan ⟨J.val / 256, by have := J.isLt; omega⟩ ⟨J.val % 256, Nat.mod_lt _ (by decide)⟩))
      (col k b (chan ⟨J.val / 256, by have := J.isLt; omega⟩ ⟨J.val % 256, Nat.mod_lt _ (by decide)⟩)))
    (fun l => ref_corr a0 a1 q k hq hk b _ _ l) a2 i
  rw [chan_of J] at hr
  refine Eq.trans ?_ hr.symm
  exact colOut_eq (corr (col q b J) (col k b J)) (lags (corr (col q b J) (col k b J))) (lags_bijective _) (lags_antitone _)
    (strict_of_pre a0 a1 a2 q k hq hk h b J) _ (col a2 b J)

end

end Cert.Mine
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_lags_distinct
public import proofs.«01_k».proof.Proof.Run
public import proofs.«01_k».proof.Proof.OrigRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The value claim: the kernel's result array is the reference's function of the arguments. -/
theorem value : Cert.algebraic_KernelIdeal_ReferenceIdeal_pre_lags_distinct := by
  intro m g m' g' hpre harg
  refine ⟨fun c => Cert.ReferenceIdeal.Read.val_main_v68 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run _ _ _).mono (fun r h c => ⟨?_, Cert.Mine.args_of_post m (fun c => Cert.Mine.rdata m c) (Cert.Mine.data_A m) r h.1 c⟩)
      (Cert.Mine.run_all m g)
    obtain ⟨h0, h1, h2⟩ := hpre c
    have hq := Cert.Mine.pre_finite_q _ _ _ h0
    have hk := Cert.Mine.pre_finite_k _ _ _ h1
    refine funext fun (x : (⟨3, ![32, 256, 4096]⟩ : Shape).Idx) => ?_
    obtain ⟨b, i, J, rfl⟩ : ∃ b i J, x = ValueIdx.ix3 b i J := ⟨_, _, _, ValueIdx.eq_ix3 x⟩
    exact (Cert.Mine.out_of_post m c _ _ hq hk r h.1 b i J).trans (Cert.Mine.column_eq _ _ _ _ _ hq hk h2 b i J)
  · refine (θ_run _ _ _).mono (fun r h c => ⟨(h c).1.trans ?_, (h c).2⟩) (Cert.ReferenceIdeal.Value.run m' g')
    obtain ⟨h0, h1, h2⟩ := harg c
    rw [Cert.ReferenceIdeal.Read.val_main_v68_eq, h0, h1, h2]

/-- The three frames, that nothing was rewritten, and the value. -/
theorem claim : Cert.Claim :=
  ⟨Cert.Kernel.Gen.facts, Cert.KernelIdeal.Gen.facts, Cert.ReferenceIdeal.Gen.facts, Cert.Pre_lags_distinct.Gen.facts,
    fun m g _ => Cert.Orig.frame_all m g,
    fun m g _ => Cert.Mine.frame_all m g,
    fun m g _ => Cert.Mine.frame_all m g,
    fun m g _ => (θ_run _ _ _).mono (fun _ h => ⟨fun c => (h c).2, sem_eq_zero_of_no_sems (by decide) _⟩) (Cert.ReferenceIdeal.Value.run m g),
    fun m g _ => (θ_run _ _ _).mono (fun _ h => ⟨fun c => (h c).2, sem_eq_zero_of_no_sems (by decide) _⟩) (Cert.ReferenceIdeal.Value.run m g),
    trivial, value⟩

end Cert.Proof

end
